-- ==== Defs.lean ====
def Pre_Kernel [hPre_in_range : Cert.Pre_in_range.Facts] (m : (ℓ : Loc Cert.Kernel.nD Cert.Kernel.τ Cert.Kernel.sig) → Buf (Elt Bits) ℓ) : Prop :=
  ∀ c : Dev Cert.Kernel.nD,
    (Cert.Pre_in_range.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] [hPre_in_range : Cert.Pre_in_range.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)) (v1 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_v1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v6) = v0 c
          ∧ r.2.mem ((c.tc : Thread Cert.ReferenceIdeal.nD Cert.ReferenceIdeal.τ).loc Cert.ReferenceIdeal.main_v7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel) (hPre_in_range := hPre_in_range)
    ∧ quiescent_KernelIdeal (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal (hKernelIdeal := hKernelIdeal) (hReferenceIdeal := hReferenceIdeal) (hPre_in_range := hPre_in_range)
-- ==== Pre_in_range.lean ====
abbrev S65536x256 : Shape := ⟨2, ![65536, 256]⟩
abbrev S256 : Shape := ⟨1, ![256]⟩
abbrev S_ : Shape := ⟨0, ![]⟩

class Facts : Prop where
  bcast_S_S256 : S_.BroadcastsInDim S256 (![] : Fin 0 → Fin S256.rank)
  reducesTo_S256_S_d0 : S256.ReducesTo [0] S_
  h_S_ : 0 < S_.numel

variable [Facts]

def fn {F : FTy → Type} [FloatOps F] (main_arg0 : FVec F S65536x256 .f32) (main_arg1 : IVec S256 32) : IVec S_ 1 :=
  let main_c : IVec S_ 32 := constantI S_ 32 0#32
  let main_v0 : IVec S256 32 := broadcastInDim S256 ![] bcast_S_S256 main_c
  let main_v1 : IVec S256 1 := cmpi .sge main_arg1 main_v0
  let main_c_0 : IVec S_ 32 := constantI S_ 32 256#32
  let main_v2 : IVec S256 32 := broadcastInDim S256 ![] bcast_S_S256 main_c_0
  let main_v3 : IVec S256 1 := cmpi .slt main_arg1 main_v2
  let main_v4 : IVec S256 1 := andi main_v1 main_v3
  let main_c_1 : IVec S_ 1 := constantI S_ 1 1#1
  let main_v5 : IVec S_ 1 := (fun x v => Host.reduce IntOp.andi x v reducesTo_S256_S_d0 h_S_) main_v4 main_c_1
  main_v5
-- ==== Kernel.lean ====
abbrev S65536x256 : Shape := ⟨2, ![65536, 256]⟩
abbrev S256 : Shape := ⟨1, ![256]⟩
abbrev S64x256 : Shape := ⟨2, ![64, 256]⟩
abbrev S_ : Shape := ⟨0, ![]⟩
abbrev S16 : Shape := ⟨1, ![16]⟩
abbrev S1x16 : Shape := ⟨2, ![1, 16]⟩
abbrev S65536 : Shape := ⟨1, ![65536]⟩

abbrev nBuf : Table → Nat
  | .hbm => 5
  | .local .scVector .vmem => 5
  | _ => 0

abbrev bufTy : (tb : Table) → Fin (nBuf tb) → BufTy
  | .hbm, ⟨0, _⟩ => ⟨S65536x256, .f32⟩
  | .hbm, ⟨1, _⟩ => ⟨S256, .i32⟩
  | .hbm, ⟨2, _⟩ => ⟨S65536x256, .f32⟩
  | .hbm, ⟨3, _⟩ => ⟨S_, .f32⟩
  | .hbm, ⟨4, _⟩ => ⟨S65536, .f32⟩
  | .local .scVector .vmem, ⟨0, _⟩ => ⟨S256, .i32⟩
  | .local .scVector .vmem, ⟨1, _⟩ => ⟨S64x256, .f32⟩
  | .local .scVector .vmem, ⟨2, _⟩ => ⟨S64x256, .f32⟩
  | .local .scVector .vmem, ⟨3, _⟩ => ⟨S64x256, .f32⟩
  | .local .scVector .vmem, ⟨4, _⟩ => ⟨S64x256, .f32⟩
  | _, _ => ⟨S65536x256, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 5 → Bool
  | ⟨0, _⟩ => false
  | ⟨1, _⟩ => false
  | ⟨2, _⟩ => false
  | ⟨3, _⟩ => false
  | ⟨4, _⟩ => false
  | _ => false

abbrev sig : RefSig :=
  ofTables nBuf rfl bufTy 4 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_arg0_scv : Ref sig .scVector := ⟨.hbm, 0, rfl⟩
abbrev main_arg1_scv : Ref sig .scVector := ⟨.hbm, 1, rfl⟩
abbrev main_v0_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) (c0_i32 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v19 : BitVec 32 := Scalar.addi v2 c0_i32
  let c0_i32_0 : BitVec 32 := 0#32
  ![v19.toNat, 0]
@[reducible] def k0_t1_loop : Scf.Loop 32 :=
  let c0_i32_7 : BitVec 32 := 0#32
  let c64_i32_8 : BitVec 32 := 64#32
  let v28 : BitVec 32 := Scalar.addi c0_i32_7 c64_i32_8
  let c1_i32 : BitVec 32 := 1#32
  ⟨c0_i32_7, v28, c1_i32⟩
def k0_off2 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v76 : Index := Scalar.indexCast v73
  let c0_61 : Index := 0#32
  ![v76.toNat, 0]
def k0_off3 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v79 : Index := Scalar.indexCast v73
  let c16_62 : Index := 16#32
  ![v79.toNat, 16]
def k0_off4 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v82 : Index := Scalar.indexCast v73
  let c32_63 : Index := 32#32
  ![v82.toNat, 32]
def k0_off5 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v85 : Index := Scalar.indexCast v73
  let c48_64 : Index := 48#32
  ![v85.toNat, 48]
def k0_off6 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v88 : Index := Scalar.indexCast v73
  let c64_65 : Index := 64#32
  ![v88.toNat, 64]
def k0_off7 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v91 : Index := Scalar.indexCast v73
  let c80_66 : Index := 80#32
  ![v91.toNat, 80]
def k0_off8 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v94 : Index := Scalar.indexCast v73
  let c96_67 : Index := 96#32
  ![v94.toNat, 96]
def k0_off9 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v97 : Index := Scalar.indexCast v73
  let c112_68 : Index := 112#32
  ![v97.toNat, 112]
def k0_off10 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v100 : Index := Scalar.indexCast v73
  let c128_69 : Index := 128#32
  ![v100.toNat, 128]
def k0_off11 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v103 : Index := Scalar.indexCast v73
  let c144_70 : Index := 144#32
  ![v103.toNat, 144]
def k0_off12 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v106 : Index := Scalar.indexCast v73
  let c160_71 : Index := 160#32
  ![v106.toNat, 160]
def k0_off13 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v109 : Index := Scalar.indexCast v73
  let c176_72 : Index := 176#32
  ![v109.toNat, 176]
def k0_off14 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v112 : Index := Scalar.indexCast v73
  let c192_73 : Index := 192#32
  ![v112.toNat, 192]
def k0_off15 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v115 : Index := Scalar.indexCast v73
  let c208_74 : Index := 208#32
  ![v115.toNat, 208]
def k0_off16 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v118 : Index := Scalar.indexCast v73
  let c224_75 : Index := 224#32
  ![v118.toNat, 224]

def k0_chk1 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) : Prop :=
  (∀ a x, ((![v74, v3] : Fin 2 → IVec S16 32) a x).toNat < S64x256.size a) ∧
  (∀ a x, ((![v74, v4] : Fin 2 → IVec S16 32) a x).toNat < S64x256.size a) ∧
  (∀ a x, ((![v74, v5] : Fin 2 → IVec S16 32) a x).toNat < S64x256.size a) ∧
  (∀ a x, ((![v74, v6] : Fin 2 → IVec S16 32) a x).toNat < S64x256.size a) ∧
  (∀ a x, ((![v74, v7] : Fin 2 → IVec S16 32) a x).toNat < S64x256.size a) ∧
  (∀ a x, ((![v74, v8] : Fin 2 → IVec S16 32) a x).toNat < S64x256.size a) ∧
  (∀ a x, ((![v74, v9] : Fin 2 → IVec S16 32) a x).toNat < S64x256.size a) ∧
  (∀ a x, ((![v74, v10] : Fin 2 → IVec S16 32) a x).toNat < S64x256.size a) ∧
  (∀ a x, ((![v74, v11] : Fin 2 → IVec S16 32) a x).toNat < S64x256.size a) ∧
  (∀ a x, ((![v74, v12] : Fin 2 → IVec S16 32) a x).toNat < S64x256.size a) ∧
  (∀ a x, ((![v74, v13] : Fin 2 → IVec S16 32) a x).toNat < S64x256.size a) ∧
  (∀ a x, ((![v74, v14] : Fin 2 → IVec S16 32) a x).toNat < S64x256.size a) ∧
  (∀ a x, ((![v74, v15] : Fin 2 → IVec S16 32) a x).toNat < S64x256.size a) ∧
  (∀ a x, ((![v74, v16] : Fin 2 → IVec S16 32) a x).toNat < S64x256.size a) ∧
  (∀ a x, ((![v74, v17] : Fin 2 → IVec S16 32) a x).toNat < S64x256.size a) ∧
  (∀ a x, ((![v74, v18] : Fin 2 → IVec S16 32) a x).toNat < S64x256.size a)
theorem k0_idx1_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v3] : Fin 2 → IVec S16 32) a x).toNat < S64x256.size a := fun v3 v4 v5 v6 v7 v8 v9 v10 v11 v12 v13 v14 v15 v16 v17 v18 v74 k0_hw1 => k0_hw1.1
theorem k0_idx2_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v4] : Fin 2 → IVec S16 32) a x).toNat < S64x256.size a := fun v3 v4 v5 v6 v7 v8 v9 v10 v11 v12 v13 v14 v15 v16 v17 v18 v74 k0_hw1 => k0_hw1.2.1
theorem k0_idx3_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v5] : Fin 2 → IVec S16 32) a x).toNat < S64x256.size a := fun v3 v4 v5 v6 v7 v8 v9 v10 v11 v12 v13 v14 v15 v16 v17 v18 v74 k0_hw1 => k0_hw1.2.2.1
theorem k0_idx4_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v6] : Fin 2 → IVec S16 32) a x).toNat < S64x256.size a := fun v3 v4 v5 v6 v7 v8 v9 v10 v11 v12 v13 v14 v15 v16 v17 v18 v74 k0_hw1 => k0_hw1.2.2.2.1
theorem k0_idx5_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v7] : Fin 2 → IVec S16 32) a x).toNat < S64x256.size a := fun v3 v4 v5 v6 v7 v8 v9 v10 v11 v12 v13 v14 v15 v16 v17 v18 v74 k0_hw1 => k0_hw1.2.2.2.2.1
theorem k0_idx6_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v8] : Fin 2 → IVec S16 32) a x).toNat < S64x256.size a := fun v3 v4 v5 v6 v7 v8 v9 v10 v11 v12 v13 v14 v15 v16 v17 v18 v74 k0_hw1 => k0_hw1.2.2.2.2.2.1
theorem k0_idx7_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v9] : Fin 2 → IVec S16 32) a x).toNat < S64x256.size a := fun v3 v4 v5 v6 v7 v8 v9 v10 v11 v12 v13 v14 v15 v16 v17 v18 v74 k0_hw1 => k0_hw1.2.2.2.2.2.2.1
theorem k0_idx8_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v10] : Fin 2 → IVec S16 32) a x).toNat < S64x256.size a := fun v3 v4 v5 v6 v7 v8 v9 v10 v11 v12 v13 v14 v15 v16 v17 v18 v74 k0_hw1 => k0_hw1.2.2.2.2.2.2.2.1
theorem k0_idx9_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v11] : Fin 2 → IVec S16 32) a x).toNat < S64x256.size a := fun v3 v4 v5 v6 v7 v8 v9 v10 v11 v12 v13 v14 v15 v16 v17 v18 v74 k0_hw1 => k0_hw1.2.2.2.2.2.2.2.2.1
theorem k0_idx10_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v12] : Fin 2 → IVec S16 32) a x).toNat < S64x256.size a := fun v3 v4 v5 v6 v7 v8 v9 v10 v11 v12 v13 v14 v15 v16 v17 v18 v74 k0_hw1 => k0_hw1.2.2.2.2.2.2.2.2.2.1
theorem k0_idx11_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v13] : Fin 2 → IVec S16 32) a x).toNat < S64x256.size a := fun v3 v4 v5 v6 v7 v8 v9 v10 v11 v12 v13 v14 v15 v16 v17 v18 v74 k0_hw1 => k0_hw1.2.2.2.2.2.2.2.2.2.2.1
theorem k0_idx12_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v14] : Fin 2 → IVec S16 32) a x).toNat < S64x256.size a := fun v3 v4 v5 v6 v7 v8 v9 v10 v11 v12 v13 v14 v15 v16 v17 v18 v74 k0_hw1 => k0_hw1.2.2.2.2.2.2.2.2.2.2.2.1
theorem k0_idx13_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v15] : Fin 2 → IVec S16 32) a x).toNat < S64x256.size a := fun v3 v4 v5 v6 v7 v8 v9 v10 v11 v12 v13 v14 v15 v16 v17 v18 v74 k0_hw1 => k0_hw1.2.2.2.2.2.2.2.2.2.2.2.2.1
theorem k0_idx14_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v16] : Fin 2 → IVec S16 32) a x).toNat < S64x256.size a := fun v3 v4 v5 v6 v7 v8 v9 v10 v11 v12 v13 v14 v15 v16 v17 v18 v74 k0_hw1 => k0_hw1.2.2.2.2.2.2.2.2.2.2.2.2.2.1
theorem k0_idx15_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v17] : Fin 2 → IVec S16 32) a x).toNat < S64x256.size a := fun v3 v4 v5 v6 v7 v8 v9 v10 v11 v12 v13 v14 v15 v16 v17 v18 v74 k0_hw1 => k0_hw1.2.2.2.2.2.2.2.2.2.2.2.2.2.2.1
theorem k0_idx16_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw1 : k0_chk1 v3 v4 v5 v6 v7 v8 v9 v10 v11 v12 v13 v14 v15 v16 v17 v18 v74), ∀ a x, ((![v74, v18] : Fin 2 → IVec S16 32) a x).toNat < S64x256.size a := fun v3 v4 v5 v6 v7 v8 v9 v10 v11 v12 v13 v14 v15 v16 v17 v18 v74 k0_hw1 => k0_hw1.2.2.2.2.2.2.2.2.2.2.2.2.2.2.2
def k0_off17 (k0_t1 : Fin k0_t1_loop.trips) : Fin 2 → Nat :=
  let c0_i32_60 : BitVec 32 := 0#32
  let c0_i32_7 : BitVec 32 := 0#32
  let c1_i32 : BitVec 32 := 1#32
  let arg14 : BitVec 32 := Scf.iv c0_i32_7 c1_i32 k0_t1
  let c1_i32_59 : BitVec 32 := 1#32
  let v72 : BitVec 32 := Scalar.muli arg14 c1_i32_59
  let v73 : BitVec 32 := Scalar.addi c0_i32_60 v72
  let v121 : Index := Scalar.indexCast v73
  let c240_76 : Index := 240#32
  ![v121.toNat, 240]
def k0_off18 (i : grid0.Coords) (c0_i32_10 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let v29 : BitVec 32 := Scalar.addi v2 c0_i32_10
  let c0_i32_11 : BitVec 32 := 0#32
  ![v29.toNat, 0]
def k0_off18_at (r : Fin 8) : BitVec 32 :=
  if r.val < 4 then
    if r.val < 2 then
      if r.val < 1 then
        0#32
      else
        128#32
    else
      if r.val < 3 then
        64#32
      else
        192#32
  else
    if r.val < 6 then
      if r.val < 5 then
        1920#32
      else
        1792#32
    else
      if r.val < 7 then
        1984#32
      else
        1856#32
@[reducible] def k0_t2_loop : Scf.Loop 32 :=
  let c0_i32_18 : BitVec 32 := 0#32
  let c64_i32_19 : BitVec 32 := 64#32
  let v38 : BitVec 32 := Scalar.addi c0_i32_18 c64_i32_19
  let c1_i32_20 : BitVec 32 := 1#32
  ⟨c0_i32_18, v38, c1_i32_20⟩
def k0_off19 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v76 : Index := Scalar.indexCast v73
  let c0_61 : Index := 0#32
  ![v76.toNat, 0]
def k0_off20 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v79 : Index := Scalar.indexCast v73
  let c16_62 : Index := 16#32
  ![v79.toNat, 16]
def k0_off21 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v82 : Index := Scalar.indexCast v73
  let c32_63 : Index := 32#32
  ![v82.toNat, 32]
def k0_off22 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v85 : Index := Scalar.indexCast v73
  let c48_64 : Index := 48#32
  ![v85.toNat, 48]
def k0_off23 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v88 : Index := Scalar.indexCast v73
  let c64_65 : Index := 64#32
  ![v88.toNat, 64]
def k0_off24 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v91 : Index := Scalar.indexCast v73
  let c80_66 : Index := 80#32
  ![v91.toNat, 80]
def k0_off25 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v94 : Index := Scalar.indexCast v73
  let c96_67 : Index := 96#32
  ![v94.toNat, 96]
def k0_off26 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v97 : Index := Scalar.indexCast v73
  let c112_68 : Index := 112#32
  ![v97.toNat, 112]
def k0_off27 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v100 : Index := Scalar.indexCast v73
  let c128_69 : Index := 128#32
  ![v100.toNat, 128]
def k0_off28 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v103 : Index := Scalar.indexCast v73
  let c144_70 : Index := 144#32
  ![v103.toNat, 144]
def k0_off29 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v106 : Index := Scalar.indexCast v73
  let c160_71 : Index := 160#32
  ![v106.toNat, 160]
def k0_off30 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v109 : Index := Scalar.indexCast v73
  let c176_72 : Index := 176#32
  ![v109.toNat, 176]
def k0_off31 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v112 : Index := Scalar.indexCast v73
  let c192_73 : Index := 192#32
  ![v112.toNat, 192]
def k0_off32 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v115 : Index := Scalar.indexCast v73
  let c208_74 : Index := 208#32
  ![v115.toNat, 208]
def k0_off33 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v118 : Index := Scalar.indexCast v73
  let c224_75 : Index := 224#32
  ![v118.toNat, 224]

def k0_chk2 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) : Prop :=
  (∀ a x, ((![v74, v3] : Fin 2 → IVec S16 32) a x).toNat < S64x256.size a) ∧
  (∀ a x, ((![v74, v4] : Fin 2 → IVec S16 32) a x).toNat < S64x256.size a) ∧
  (∀ a x, ((![v74, v5] : Fin 2 → IVec S16 32) a x).toNat < S64x256.size a) ∧
  (∀ a x, ((![v74, v6] : Fin 2 → IVec S16 32) a x).toNat < S64x256.size a) ∧
  (∀ a x, ((![v74, v7] : Fin 2 → IVec S16 32) a x).toNat < S64x256.size a) ∧
  (∀ a x, ((![v74, v8] : Fin 2 → IVec S16 32) a x).toNat < S64x256.size a) ∧
  (∀ a x, ((![v74, v9] : Fin 2 → IVec S16 32) a x).toNat < S64x256.size a) ∧
  (∀ a x, ((![v74, v10] : Fin 2 → IVec S16 32) a x).toNat < S64x256.size a) ∧
  (∀ a x, ((![v74, v11] : Fin 2 → IVec S16 32) a x).toNat < S64x256.size a) ∧
  (∀ a x, ((![v74, v12] : Fin 2 → IVec S16 32) a x).toNat < S64x256.size a) ∧
  (∀ a x, ((![v74, v13] : Fin 2 → IVec S16 32) a x).toNat < S64x256.size a) ∧
  (∀ a x, ((![v74, v14] : Fin 2 → IVec S16 32) a x).toNat < S64x256.size a) ∧
  (∀ a x, ((![v74, v15] : Fin 2 → IVec S16 32) a x).toNat < S64x256.size a) ∧
  (∀ a x, ((![v74, v16] : Fin 2 → IVec S16 32) a x).toNat < S64x256.size a) ∧
  (∀ a x, ((![v74, v17] : Fin 2 → IVec S16 32) a x).toNat < S64x256.size a) ∧
  (∀ a x, ((![v74, v18] : Fin 2 → IVec S16 32) a x).toNat < S64x256.size a)
theorem k0_idx17_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v3] : Fin 2 → IVec S16 32) a x).toNat < S64x256.size a := fun v3 v4 v5 v6 v7 v8 v9 v10 v11 v12 v13 v14 v15 v16 v17 v18 v74 k0_hw2 => k0_hw2.1
theorem k0_idx18_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v4] : Fin 2 → IVec S16 32) a x).toNat < S64x256.size a := fun v3 v4 v5 v6 v7 v8 v9 v10 v11 v12 v13 v14 v15 v16 v17 v18 v74 k0_hw2 => k0_hw2.2.1
theorem k0_idx19_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v5] : Fin 2 → IVec S16 32) a x).toNat < S64x256.size a := fun v3 v4 v5 v6 v7 v8 v9 v10 v11 v12 v13 v14 v15 v16 v17 v18 v74 k0_hw2 => k0_hw2.2.2.1
theorem k0_idx20_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v6] : Fin 2 → IVec S16 32) a x).toNat < S64x256.size a := fun v3 v4 v5 v6 v7 v8 v9 v10 v11 v12 v13 v14 v15 v16 v17 v18 v74 k0_hw2 => k0_hw2.2.2.2.1
theorem k0_idx21_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v7] : Fin 2 → IVec S16 32) a x).toNat < S64x256.size a := fun v3 v4 v5 v6 v7 v8 v9 v10 v11 v12 v13 v14 v15 v16 v17 v18 v74 k0_hw2 => k0_hw2.2.2.2.2.1
theorem k0_idx22_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v8] : Fin 2 → IVec S16 32) a x).toNat < S64x256.size a := fun v3 v4 v5 v6 v7 v8 v9 v10 v11 v12 v13 v14 v15 v16 v17 v18 v74 k0_hw2 => k0_hw2.2.2.2.2.2.1
theorem k0_idx23_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v9] : Fin 2 → IVec S16 32) a x).toNat < S64x256.size a := fun v3 v4 v5 v6 v7 v8 v9 v10 v11 v12 v13 v14 v15 v16 v17 v18 v74 k0_hw2 => k0_hw2.2.2.2.2.2.2.1
theorem k0_idx24_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v10] : Fin 2 → IVec S16 32) a x).toNat < S64x256.size a := fun v3 v4 v5 v6 v7 v8 v9 v10 v11 v12 v13 v14 v15 v16 v17 v18 v74 k0_hw2 => k0_hw2.2.2.2.2.2.2.2.1
theorem k0_idx25_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v11] : Fin 2 → IVec S16 32) a x).toNat < S64x256.size a := fun v3 v4 v5 v6 v7 v8 v9 v10 v11 v12 v13 v14 v15 v16 v17 v18 v74 k0_hw2 => k0_hw2.2.2.2.2.2.2.2.2.1
theorem k0_idx26_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v12] : Fin 2 → IVec S16 32) a x).toNat < S64x256.size a := fun v3 v4 v5 v6 v7 v8 v9 v10 v11 v12 v13 v14 v15 v16 v17 v18 v74 k0_hw2 => k0_hw2.2.2.2.2.2.2.2.2.2.1
theorem k0_idx27_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v13] : Fin 2 → IVec S16 32) a x).toNat < S64x256.size a := fun v3 v4 v5 v6 v7 v8 v9 v10 v11 v12 v13 v14 v15 v16 v17 v18 v74 k0_hw2 => k0_hw2.2.2.2.2.2.2.2.2.2.2.1
theorem k0_idx28_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v14] : Fin 2 → IVec S16 32) a x).toNat < S64x256.size a := fun v3 v4 v5 v6 v7 v8 v9 v10 v11 v12 v13 v14 v15 v16 v17 v18 v74 k0_hw2 => k0_hw2.2.2.2.2.2.2.2.2.2.2.2.1
theorem k0_idx29_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v15] : Fin 2 → IVec S16 32) a x).toNat < S64x256.size a := fun v3 v4 v5 v6 v7 v8 v9 v10 v11 v12 v13 v14 v15 v16 v17 v18 v74 k0_hw2 => k0_hw2.2.2.2.2.2.2.2.2.2.2.2.2.1
theorem k0_idx30_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v16] : Fin 2 → IVec S16 32) a x).toNat < S64x256.size a := fun v3 v4 v5 v6 v7 v8 v9 v10 v11 v12 v13 v14 v15 v16 v17 v18 v74 k0_hw2 => k0_hw2.2.2.2.2.2.2.2.2.2.2.2.2.2.1
theorem k0_idx31_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v17] : Fin 2 → IVec S16 32) a x).toNat < S64x256.size a := fun v3 v4 v5 v6 v7 v8 v9 v10 v11 v12 v13 v14 v15 v16 v17 v18 v74 k0_hw2 => k0_hw2.2.2.2.2.2.2.2.2.2.2.2.2.2.2.1
theorem k0_idx32_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw2 : k0_chk2 v3 v4 v5 v6 v7 v8 v9 v10 v11 v12 v13 v14 v15 v16 v17 v18 v74), ∀ a x, ((![v74, v18] : Fin 2 → IVec S16 32) a x).toNat < S64x256.size a := fun v3 v4 v5 v6 v7 v8 v9 v10 v11 v12 v13 v14 v15 v16 v17 v18 v74 k0_hw2 => k0_hw2.2.2.2.2.2.2.2.2.2.2.2.2.2.2.2
def k0_off34 (k0_t2 : Fin k0_t2_loop.trips) : Fin 2 → Nat :=
  let c0_i32_60 : BitVec 32 := 0#32
  let c0_i32_18 : BitVec 32 := 0#32
  let c1_i32_20 : BitVec 32 := 1#32
  let arg14 : BitVec 32 := Scf.iv c0_i32_18 c1_i32_20 k0_t2
  let c1_i32_59 : BitVec 32 := 1#32
  let v72 : BitVec 32 := Scalar.muli arg14 c1_i32_59
  let v73 : BitVec 32 := Scalar.addi c0_i32_60 v72
  let v121 : Index := Scalar.indexCast v73
  let c240_76 : Index := 240#32
  ![v121.toNat, 240]
@[reducible] def k0_t3_loop : Scf.Loop 32 :=
  let c1_i32_28 : BitVec 32 := 1#32
  let c14_i32 : BitVec 32 := 14#32
  let v45 : BitVec 32 := Scalar.addi c1_i32_28 c14_i32
  let c1_i32_29 : BitVec 32 := 1#32
  ⟨c1_i32_28, v45, c1_i32_29⟩
def k0_off35 (i : grid0.Coords) (k0_t3 : Fin k0_t3_loop.trips) (c0_i32_60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c1_i32_28 : BitVec 32 := 1#32
  let c1_i32_29 : BitVec 32 := 1#32
  let arg14 : BitVec 32 := Scf.iv c1_i32_28 c1_i32_29 k0_t3
  let c2_i32_59 : BitVec 32 := 2#32
  let v72 : BitVec 32 := Scalar.muli arg14 c2_i32_59
  let v73 : BitVec 32 := Scalar.addi v72 c0_i32_60
  let c64_i32_61 : BitVec 32 := 64#32
  let v74 : BitVec 32 := Scalar.muli v73 c64_i32_61
  let v75 : BitVec 32 := Scalar.addi v2 v74
  let c0_i32_62 : BitVec 32 := 0#32
  ![v75.toNat, 0]
def k0_off36 (i : grid0.Coords) (k0_t3 : Fin k0_t3_loop.trips) (c0_i32_60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c1_i32_28 : BitVec 32 := 1#32
  let c1_i32_29 : BitVec 32 := 1#32
  let arg14 : BitVec 32 := Scf.iv c1_i32_28 c1_i32_29 k0_t3
  let c2_i32_59 : BitVec 32 := 2#32
  let v72 : BitVec 32 := Scalar.muli arg14 c2_i32_59
  let v73 : BitVec 32 := Scalar.addi v72 c0_i32_60
  let c2_i32_64 : BitVec 32 := 2#32
  let v78 : BitVec 32 := Scalar.subi v73 c2_i32_64
  let c64_i32_65 : BitVec 32 := 64#32
  let v79 : BitVec 32 := Scalar.muli v78 c64_i32_65
  let v80 : BitVec 32 := Scalar.addi v2 v79
  let c0_i32_66 : BitVec 32 := 0#32
  ![v80.toNat, 0]
@[reducible] def k0_t4_loop : Scf.Loop 32 :=
  let c0_i32_68 : BitVec 32 := 0#32
  let c64_i32_69 : BitVec 32 := 64#32
  let v83 : BitVec 32 := Scalar.addi c0_i32_68 c64_i32_69
  let c1_i32_70 : BitVec 32 := 1#32
  ⟨c0_i32_68, v83, c1_i32_70⟩
def k0_off37 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v118 : Index := Scalar.indexCast v115
  let c0_101 : Index := 0#32
  ![v118.toNat, 0]
def k0_off38 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v121 : Index := Scalar.indexCast v115
  let c16_102 : Index := 16#32
  ![v121.toNat, 16]
def k0_off39 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v124 : Index := Scalar.indexCast v115
  let c32_103 : Index := 32#32
  ![v124.toNat, 32]
def k0_off40 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v127 : Index := Scalar.indexCast v115
  let c48_104 : Index := 48#32
  ![v127.toNat, 48]
def k0_off41 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v130 : Index := Scalar.indexCast v115
  let c64_105 : Index := 64#32
  ![v130.toNat, 64]
def k0_off42 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v133 : Index := Scalar.indexCast v115
  let c80_106 : Index := 80#32
  ![v133.toNat, 80]
def k0_off43 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v136 : Index := Scalar.indexCast v115
  let c96_107 : Index := 96#32
  ![v136.toNat, 96]
def k0_off44 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v139 : Index := Scalar.indexCast v115
  let c112_108 : Index := 112#32
  ![v139.toNat, 112]
def k0_off45 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v142 : Index := Scalar.indexCast v115
  let c128_109 : Index := 128#32
  ![v142.toNat, 128]
def k0_off46 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v145 : Index := Scalar.indexCast v115
  let c144_110 : Index := 144#32
  ![v145.toNat, 144]
def k0_off47 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v148 : Index := Scalar.indexCast v115
  let c160_111 : Index := 160#32
  ![v148.toNat, 160]
def k0_off48 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v151 : Index := Scalar.indexCast v115
  let c176_112 : Index := 176#32
  ![v151.toNat, 176]
def k0_off49 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v154 : Index := Scalar.indexCast v115
  let c192_113 : Index := 192#32
  ![v154.toNat, 192]
def k0_off50 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v157 : Index := Scalar.indexCast v115
  let c208_114 : Index := 208#32
  ![v157.toNat, 208]
def k0_off51 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v160 : Index := Scalar.indexCast v115
  let c224_115 : Index := 224#32
  ![v160.toNat, 224]

def k0_chk3 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) : Prop :=
  (∀ a x, ((![v116, v3] : Fin 2 → IVec S16 32) a x).toNat < S64x256.size a) ∧
  (∀ a x, ((![v116, v4] : Fin 2 → IVec S16 32) a x).toNat < S64x256.size a) ∧
  (∀ a x, ((![v116, v5] : Fin 2 → IVec S16 32) a x).toNat < S64x256.size a) ∧
  (∀ a x, ((![v116, v6] : Fin 2 → IVec S16 32) a x).toNat < S64x256.size a) ∧
  (∀ a x, ((![v116, v7] : Fin 2 → IVec S16 32) a x).toNat < S64x256.size a) ∧
  (∀ a x, ((![v116, v8] : Fin 2 → IVec S16 32) a x).toNat < S64x256.size a) ∧
  (∀ a x, ((![v116, v9] : Fin 2 → IVec S16 32) a x).toNat < S64x256.size a) ∧
  (∀ a x, ((![v116, v10] : Fin 2 → IVec S16 32) a x).toNat < S64x256.size a) ∧
  (∀ a x, ((![v116, v11] : Fin 2 → IVec S16 32) a x).toNat < S64x256.size a) ∧
  (∀ a x, ((![v116, v12] : Fin 2 → IVec S16 32) a x).toNat < S64x256.size a) ∧
  (∀ a x, ((![v116, v13] : Fin 2 → IVec S16 32) a x).toNat < S64x256.size a) ∧
  (∀ a x, ((![v116, v14] : Fin 2 → IVec S16 32) a x).toNat < S64x256.size a) ∧
  (∀ a x, ((![v116, v15] : Fin 2 → IVec S16 32) a x).toNat < S64x256.size a) ∧
  (∀ a x, ((![v116, v16] : Fin 2 → IVec S16 32) a x).toNat < S64x256.size a) ∧
  (∀ a x, ((![v116, v17] : Fin 2 → IVec S16 32) a x).toNat < S64x256.size a) ∧
  (∀ a x, ((![v116, v18] : Fin 2 → IVec S16 32) a x).toNat < S64x256.size a)
theorem k0_idx33_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v3] : Fin 2 → IVec S16 32) a x).toNat < S64x256.size a := fun v3 v4 v5 v6 v7 v8 v9 v10 v11 v12 v13 v14 v15 v16 v17 v18 v116 k0_hw3 => k0_hw3.1
theorem k0_idx34_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v4] : Fin 2 → IVec S16 32) a x).toNat < S64x256.size a := fun v3 v4 v5 v6 v7 v8 v9 v10 v11 v12 v13 v14 v15 v16 v17 v18 v116 k0_hw3 => k0_hw3.2.1
theorem k0_idx35_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v5] : Fin 2 → IVec S16 32) a x).toNat < S64x256.size a := fun v3 v4 v5 v6 v7 v8 v9 v10 v11 v12 v13 v14 v15 v16 v17 v18 v116 k0_hw3 => k0_hw3.2.2.1
theorem k0_idx36_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v6] : Fin 2 → IVec S16 32) a x).toNat < S64x256.size a := fun v3 v4 v5 v6 v7 v8 v9 v10 v11 v12 v13 v14 v15 v16 v17 v18 v116 k0_hw3 => k0_hw3.2.2.2.1
theorem k0_idx37_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v7] : Fin 2 → IVec S16 32) a x).toNat < S64x256.size a := fun v3 v4 v5 v6 v7 v8 v9 v10 v11 v12 v13 v14 v15 v16 v17 v18 v116 k0_hw3 => k0_hw3.2.2.2.2.1
theorem k0_idx38_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v8] : Fin 2 → IVec S16 32) a x).toNat < S64x256.size a := fun v3 v4 v5 v6 v7 v8 v9 v10 v11 v12 v13 v14 v15 v16 v17 v18 v116 k0_hw3 => k0_hw3.2.2.2.2.2.1
theorem k0_idx39_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v9] : Fin 2 → IVec S16 32) a x).toNat < S64x256.size a := fun v3 v4 v5 v6 v7 v8 v9 v10 v11 v12 v13 v14 v15 v16 v17 v18 v116 k0_hw3 => k0_hw3.2.2.2.2.2.2.1
theorem k0_idx40_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v10] : Fin 2 → IVec S16 32) a x).toNat < S64x256.size a := fun v3 v4 v5 v6 v7 v8 v9 v10 v11 v12 v13 v14 v15 v16 v17 v18 v116 k0_hw3 => k0_hw3.2.2.2.2.2.2.2.1
theorem k0_idx41_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v11] : Fin 2 → IVec S16 32) a x).toNat < S64x256.size a := fun v3 v4 v5 v6 v7 v8 v9 v10 v11 v12 v13 v14 v15 v16 v17 v18 v116 k0_hw3 => k0_hw3.2.2.2.2.2.2.2.2.1
theorem k0_idx42_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v12] : Fin 2 → IVec S16 32) a x).toNat < S64x256.size a := fun v3 v4 v5 v6 v7 v8 v9 v10 v11 v12 v13 v14 v15 v16 v17 v18 v116 k0_hw3 => k0_hw3.2.2.2.2.2.2.2.2.2.1
theorem k0_idx43_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v13] : Fin 2 → IVec S16 32) a x).toNat < S64x256.size a := fun v3 v4 v5 v6 v7 v8 v9 v10 v11 v12 v13 v14 v15 v16 v17 v18 v116 k0_hw3 => k0_hw3.2.2.2.2.2.2.2.2.2.2.1
theorem k0_idx44_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v14] : Fin 2 → IVec S16 32) a x).toNat < S64x256.size a := fun v3 v4 v5 v6 v7 v8 v9 v10 v11 v12 v13 v14 v15 v16 v17 v18 v116 k0_hw3 => k0_hw3.2.2.2.2.2.2.2.2.2.2.2.1
theorem k0_idx45_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v15] : Fin 2 → IVec S16 32) a x).toNat < S64x256.size a := fun v3 v4 v5 v6 v7 v8 v9 v10 v11 v12 v13 v14 v15 v16 v17 v18 v116 k0_hw3 => k0_hw3.2.2.2.2.2.2.2.2.2.2.2.2.1
theorem k0_idx46_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v16] : Fin 2 → IVec S16 32) a x).toNat < S64x256.size a := fun v3 v4 v5 v6 v7 v8 v9 v10 v11 v12 v13 v14 v15 v16 v17 v18 v116 k0_hw3 => k0_hw3.2.2.2.2.2.2.2.2.2.2.2.2.2.1
theorem k0_idx47_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v17] : Fin 2 → IVec S16 32) a x).toNat < S64x256.size a := fun v3 v4 v5 v6 v7 v8 v9 v10 v11 v12 v13 v14 v15 v16 v17 v18 v116 k0_hw3 => k0_hw3.2.2.2.2.2.2.2.2.2.2.2.2.2.2.1
theorem k0_idx48_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw3 : k0_chk3 v3 v4 v5 v6 v7 v8 v9 v10 v11 v12 v13 v14 v15 v16 v17 v18 v116), ∀ a x, ((![v116, v18] : Fin 2 → IVec S16 32) a x).toNat < S64x256.size a := fun v3 v4 v5 v6 v7 v8 v9 v10 v11 v12 v13 v14 v15 v16 v17 v18 v116 k0_hw3 => k0_hw3.2.2.2.2.2.2.2.2.2.2.2.2.2.2.2
def k0_off52 (k0_t4 : Fin k0_t4_loop.trips) : Fin 2 → Nat :=
  let c0_i32_100 : BitVec 32 := 0#32
  let c0_i32_68 : BitVec 32 := 0#32
  let c1_i32_70 : BitVec 32 := 1#32
  let arg15 : BitVec 32 := Scf.iv c0_i32_68 c1_i32_70 k0_t4
  let c1_i32_99 : BitVec 32 := 1#32
  let v114 : BitVec 32 := Scalar.muli arg15 c1_i32_99
  let v115 : BitVec 32 := Scalar.addi c0_i32_100 v114
  let v163 : Index := Scalar.indexCast v115
  let c240_116 : Index := 240#32
  ![v163.toNat, 240]
def k0_off53 (i : grid0.Coords) (k0_t3 : Fin k0_t3_loop.trips) (c0_i32_60 : BitVec 32) : Fin 2 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c2048_i32 : BitVec 32 := 2048#32
  let v2 : BitVec 32 := Scalar.muli v1 c2048_i32
  let c1_i32_28 : BitVec 32 := 1#32
  let c1_i32_29 : BitVec 32 := 1#32
  let arg14 : BitVec 32 := Scf.iv c1_i32_28 c1_i32_29 k0_t3
  let c2_i32_59 : BitVec 32 := 2#32
  let v72 : BitVec 32 := Scalar.muli arg14 c2_i32_59
  let v73 : BitVec 32 := Scalar.addi v72 c0_i32_60
  let c2_i32_75 : BitVec 32 := 2#32
  let v88 : BitVec 32 := Scalar.addi v73 c2_i32_75
  let c64_i32_76 : BitVec 32 := 64#32
  let v89 : BitVec 32 := Scalar.muli v88 c64_i32_76
  let v90 : BitVec 32 := Scalar.addi v2 v89
  let c0_i32_77 : BitVec 32 := 0#32
  ![v90.toNat, 0]
@[reducible] def k0_t5_loop : Scf.Loop 32 :=
  let c0_i32_88 : BitVec 32 := 0#32
  let c64_i32_89 : BitVec 32 := 64#32
  let v104 : BitVec 32 := Scalar.addi c0_i32_88 c64_i32_89
  let c1_i32_90 : BitVec 32 := 1#32
  ⟨c0_i32_88, v104, c1_i32_90⟩
def k0_off54 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v118 : Index := Scalar.indexCast v115
  let c0_101 : Index := 0#32
  ![v118.toNat, 0]
def k0_off55 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v121 : Index := Scalar.indexCast v115
  let c16_102 : Index := 16#32
  ![v121.toNat, 16]
def k0_off56 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v124 : Index := Scalar.indexCast v115
  let c32_103 : Index := 32#32
  ![v124.toNat, 32]
def k0_off57 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v127 : Index := Scalar.indexCast v115
  let c48_104 : Index := 48#32
  ![v127.toNat, 48]
def k0_off58 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v130 : Index := Scalar.indexCast v115
  let c64_105 : Index := 64#32
  ![v130.toNat, 64]
def k0_off59 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v133 : Index := Scalar.indexCast v115
  let c80_106 : Index := 80#32
  ![v133.toNat, 80]
def k0_off60 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v136 : Index := Scalar.indexCast v115
  let c96_107 : Index := 96#32
  ![v136.toNat, 96]
def k0_off61 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v139 : Index := Scalar.indexCast v115
  let c112_108 : Index := 112#32
  ![v139.toNat, 112]
def k0_off62 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v142 : Index := Scalar.indexCast v115
  let c128_109 : Index := 128#32
  ![v142.toNat, 128]
def k0_off63 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v145 : Index := Scalar.indexCast v115
  let c144_110 : Index := 144#32
  ![v145.toNat, 144]
def k0_off64 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v148 : Index := Scalar.indexCast v115
  let c160_111 : Index := 160#32
  ![v148.toNat, 160]
def k0_off65 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v151 : Index := Scalar.indexCast v115
  let c176_112 : Index := 176#32
  ![v151.toNat, 176]
def k0_off66 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v154 : Index := Scalar.indexCast v115
  let c192_113 : Index := 192#32
  ![v154.toNat, 192]
def k0_off67 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v157 : Index := Scalar.indexCast v115
  let c208_114 : Index := 208#32
  ![v157.toNat, 208]
def k0_off68 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v160 : Index := Scalar.indexCast v115
  let c224_115 : Index := 224#32
  ![v160.toNat, 224]

def k0_chk4 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) : Prop :=
  (∀ a x, ((![v116, v3] : Fin 2 → IVec S16 32) a x).toNat < S64x256.size a) ∧
  (∀ a x, ((![v116, v4] : Fin 2 → IVec S16 32) a x).toNat < S64x256.size a) ∧
  (∀ a x, ((![v116, v5] : Fin 2 → IVec S16 32) a x).toNat < S64x256.size a) ∧
  (∀ a x, ((![v116, v6] : Fin 2 → IVec S16 32) a x).toNat < S64x256.size a) ∧
  (∀ a x, ((![v116, v7] : Fin 2 → IVec S16 32) a x).toNat < S64x256.size a) ∧
  (∀ a x, ((![v116, v8] : Fin 2 → IVec S16 32) a x).toNat < S64x256.size a) ∧
  (∀ a x, ((![v116, v9] : Fin 2 → IVec S16 32) a x).toNat < S64x256.size a) ∧
  (∀ a x, ((![v116, v10] : Fin 2 → IVec S16 32) a x).toNat < S64x256.size a) ∧
  (∀ a x, ((![v116, v11] : Fin 2 → IVec S16 32) a x).toNat < S64x256.size a) ∧
  (∀ a x, ((![v116, v12] : Fin 2 → IVec S16 32) a x).toNat < S64x256.size a) ∧
  (∀ a x, ((![v116, v13] : Fin 2 → IVec S16 32) a x).toNat < S64x256.size a) ∧
  (∀ a x, ((![v116, v14] : Fin 2 → IVec S16 32) a x).toNat < S64x256.size a) ∧
  (∀ a x, ((![v116, v15] : Fin 2 → IVec S16 32) a x).toNat < S64x256.size a) ∧
  (∀ a x, ((![v116, v16] : Fin 2 → IVec S16 32) a x).toNat < S64x256.size a) ∧
  (∀ a x, ((![v116, v17] : Fin 2 → IVec S16 32) a x).toNat < S64x256.size a) ∧
  (∀ a x, ((![v116, v18] : Fin 2 → IVec S16 32) a x).toNat < S64x256.size a)
theorem k0_idx49_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v3] : Fin 2 → IVec S16 32) a x).toNat < S64x256.size a := fun v3 v4 v5 v6 v7 v8 v9 v10 v11 v12 v13 v14 v15 v16 v17 v18 v116 k0_hw4 => k0_hw4.1
theorem k0_idx50_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v4] : Fin 2 → IVec S16 32) a x).toNat < S64x256.size a := fun v3 v4 v5 v6 v7 v8 v9 v10 v11 v12 v13 v14 v15 v16 v17 v18 v116 k0_hw4 => k0_hw4.2.1
theorem k0_idx51_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v5] : Fin 2 → IVec S16 32) a x).toNat < S64x256.size a := fun v3 v4 v5 v6 v7 v8 v9 v10 v11 v12 v13 v14 v15 v16 v17 v18 v116 k0_hw4 => k0_hw4.2.2.1
theorem k0_idx52_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v6] : Fin 2 → IVec S16 32) a x).toNat < S64x256.size a := fun v3 v4 v5 v6 v7 v8 v9 v10 v11 v12 v13 v14 v15 v16 v17 v18 v116 k0_hw4 => k0_hw4.2.2.2.1
theorem k0_idx53_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v7] : Fin 2 → IVec S16 32) a x).toNat < S64x256.size a := fun v3 v4 v5 v6 v7 v8 v9 v10 v11 v12 v13 v14 v15 v16 v17 v18 v116 k0_hw4 => k0_hw4.2.2.2.2.1
theorem k0_idx54_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v8] : Fin 2 → IVec S16 32) a x).toNat < S64x256.size a := fun v3 v4 v5 v6 v7 v8 v9 v10 v11 v12 v13 v14 v15 v16 v17 v18 v116 k0_hw4 => k0_hw4.2.2.2.2.2.1
theorem k0_idx55_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v9] : Fin 2 → IVec S16 32) a x).toNat < S64x256.size a := fun v3 v4 v5 v6 v7 v8 v9 v10 v11 v12 v13 v14 v15 v16 v17 v18 v116 k0_hw4 => k0_hw4.2.2.2.2.2.2.1
theorem k0_idx56_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v10] : Fin 2 → IVec S16 32) a x).toNat < S64x256.size a := fun v3 v4 v5 v6 v7 v8 v9 v10 v11 v12 v13 v14 v15 v16 v17 v18 v116 k0_hw4 => k0_hw4.2.2.2.2.2.2.2.1
theorem k0_idx57_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v11] : Fin 2 → IVec S16 32) a x).toNat < S64x256.size a := fun v3 v4 v5 v6 v7 v8 v9 v10 v11 v12 v13 v14 v15 v16 v17 v18 v116 k0_hw4 => k0_hw4.2.2.2.2.2.2.2.2.1
theorem k0_idx58_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v12] : Fin 2 → IVec S16 32) a x).toNat < S64x256.size a := fun v3 v4 v5 v6 v7 v8 v9 v10 v11 v12 v13 v14 v15 v16 v17 v18 v116 k0_hw4 => k0_hw4.2.2.2.2.2.2.2.2.2.1
theorem k0_idx59_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v13] : Fin 2 → IVec S16 32) a x).toNat < S64x256.size a := fun v3 v4 v5 v6 v7 v8 v9 v10 v11 v12 v13 v14 v15 v16 v17 v18 v116 k0_hw4 => k0_hw4.2.2.2.2.2.2.2.2.2.2.1
theorem k0_idx60_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v14] : Fin 2 → IVec S16 32) a x).toNat < S64x256.size a := fun v3 v4 v5 v6 v7 v8 v9 v10 v11 v12 v13 v14 v15 v16 v17 v18 v116 k0_hw4 => k0_hw4.2.2.2.2.2.2.2.2.2.2.2.1
theorem k0_idx61_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v15] : Fin 2 → IVec S16 32) a x).toNat < S64x256.size a := fun v3 v4 v5 v6 v7 v8 v9 v10 v11 v12 v13 v14 v15 v16 v17 v18 v116 k0_hw4 => k0_hw4.2.2.2.2.2.2.2.2.2.2.2.2.1
theorem k0_idx62_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v16] : Fin 2 → IVec S16 32) a x).toNat < S64x256.size a := fun v3 v4 v5 v6 v7 v8 v9 v10 v11 v12 v13 v14 v15 v16 v17 v18 v116 k0_hw4 => k0_hw4.2.2.2.2.2.2.2.2.2.2.2.2.2.1
theorem k0_idx63_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v17] : Fin 2 → IVec S16 32) a x).toNat < S64x256.size a := fun v3 v4 v5 v6 v7 v8 v9 v10 v11 v12 v13 v14 v15 v16 v17 v18 v116 k0_hw4 => k0_hw4.2.2.2.2.2.2.2.2.2.2.2.2.2.2.1
theorem k0_idx64_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v116 : IVec S16 32) (k0_hw4 : k0_chk4 v3 v4 v5 v6 v7 v8 v9 v10 v11 v12 v13 v14 v15 v16 v17 v18 v116), ∀ a x, ((![v116, v18] : Fin 2 → IVec S16 32) a x).toNat < S64x256.size a := fun v3 v4 v5 v6 v7 v8 v9 v10 v11 v12 v13 v14 v15 v16 v17 v18 v116 k0_hw4 => k0_hw4.2.2.2.2.2.2.2.2.2.2.2.2.2.2.2
def k0_off69 (k0_t5 : Fin k0_t5_loop.trips) : Fin 2 → Nat :=
  let c0_i32_100 : BitVec 32 := 0#32
  let c0_i32_88 : BitVec 32 := 0#32
  let c1_i32_90 : BitVec 32 := 1#32
  let arg15 : BitVec 32 := Scf.iv c0_i32_88 c1_i32_90 k0_t5
  let c1_i32_99 : BitVec 32 := 1#32
  let v114 : BitVec 32 := Scalar.muli arg15 c1_i32_99
  let v115 : BitVec 32 := Scalar.addi c0_i32_100 v114
  let v163 : Index := Scalar.indexCast v115
  let c240_116 : Index := 240#32
  ![v163.toNat, 240]
@[reducible] def k0_t6_loop : Scf.Loop 32 :=
  let c0_i32_35 : BitVec 32 := 0#32
  let c64_i32_36 : BitVec 32 := 64#32
  let v52 : BitVec 32 := Scalar.addi c0_i32_35 c64_i32_36
  let c1_i32_37 : BitVec 32 := 1#32
  ⟨c0_i32_35, v52, c1_i32_37⟩
def k0_off70 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v76 : Index := Scalar.indexCast v73
  let c0_61 : Index := 0#32
  ![v76.toNat, 0]
def k0_off71 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v79 : Index := Scalar.indexCast v73
  let c16_62 : Index := 16#32
  ![v79.toNat, 16]
def k0_off72 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v82 : Index := Scalar.indexCast v73
  let c32_63 : Index := 32#32
  ![v82.toNat, 32]
def k0_off73 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v85 : Index := Scalar.indexCast v73
  let c48_64 : Index := 48#32
  ![v85.toNat, 48]
def k0_off74 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v88 : Index := Scalar.indexCast v73
  let c64_65 : Index := 64#32
  ![v88.toNat, 64]
def k0_off75 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v91 : Index := Scalar.indexCast v73
  let c80_66 : Index := 80#32
  ![v91.toNat, 80]
def k0_off76 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v94 : Index := Scalar.indexCast v73
  let c96_67 : Index := 96#32
  ![v94.toNat, 96]
def k0_off77 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v97 : Index := Scalar.indexCast v73
  let c112_68 : Index := 112#32
  ![v97.toNat, 112]
def k0_off78 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v100 : Index := Scalar.indexCast v73
  let c128_69 : Index := 128#32
  ![v100.toNat, 128]
def k0_off79 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v103 : Index := Scalar.indexCast v73
  let c144_70 : Index := 144#32
  ![v103.toNat, 144]
def k0_off80 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v106 : Index := Scalar.indexCast v73
  let c160_71 : Index := 160#32
  ![v106.toNat, 160]
def k0_off81 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v109 : Index := Scalar.indexCast v73
  let c176_72 : Index := 176#32
  ![v109.toNat, 176]
def k0_off82 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v112 : Index := Scalar.indexCast v73
  let c192_73 : Index := 192#32
  ![v112.toNat, 192]
def k0_off83 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v115 : Index := Scalar.indexCast v73
  let c208_74 : Index := 208#32
  ![v115.toNat, 208]
def k0_off84 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v118 : Index := Scalar.indexCast v73
  let c224_75 : Index := 224#32
  ![v118.toNat, 224]

def k0_chk5 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) : Prop :=
  (∀ a x, ((![v74, v3] : Fin 2 → IVec S16 32) a x).toNat < S64x256.size a) ∧
  (∀ a x, ((![v74, v4] : Fin 2 → IVec S16 32) a x).toNat < S64x256.size a) ∧
  (∀ a x, ((![v74, v5] : Fin 2 → IVec S16 32) a x).toNat < S64x256.size a) ∧
  (∀ a x, ((![v74, v6] : Fin 2 → IVec S16 32) a x).toNat < S64x256.size a) ∧
  (∀ a x, ((![v74, v7] : Fin 2 → IVec S16 32) a x).toNat < S64x256.size a) ∧
  (∀ a x, ((![v74, v8] : Fin 2 → IVec S16 32) a x).toNat < S64x256.size a) ∧
  (∀ a x, ((![v74, v9] : Fin 2 → IVec S16 32) a x).toNat < S64x256.size a) ∧
  (∀ a x, ((![v74, v10] : Fin 2 → IVec S16 32) a x).toNat < S64x256.size a) ∧
  (∀ a x, ((![v74, v11] : Fin 2 → IVec S16 32) a x).toNat < S64x256.size a) ∧
  (∀ a x, ((![v74, v12] : Fin 2 → IVec S16 32) a x).toNat < S64x256.size a) ∧
  (∀ a x, ((![v74, v13] : Fin 2 → IVec S16 32) a x).toNat < S64x256.size a) ∧
  (∀ a x, ((![v74, v14] : Fin 2 → IVec S16 32) a x).toNat < S64x256.size a) ∧
  (∀ a x, ((![v74, v15] : Fin 2 → IVec S16 32) a x).toNat < S64x256.size a) ∧
  (∀ a x, ((![v74, v16] : Fin 2 → IVec S16 32) a x).toNat < S64x256.size a) ∧
  (∀ a x, ((![v74, v17] : Fin 2 → IVec S16 32) a x).toNat < S64x256.size a) ∧
  (∀ a x, ((![v74, v18] : Fin 2 → IVec S16 32) a x).toNat < S64x256.size a)
theorem k0_idx65_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v3] : Fin 2 → IVec S16 32) a x).toNat < S64x256.size a := fun v3 v4 v5 v6 v7 v8 v9 v10 v11 v12 v13 v14 v15 v16 v17 v18 v74 k0_hw5 => k0_hw5.1
theorem k0_idx66_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v4] : Fin 2 → IVec S16 32) a x).toNat < S64x256.size a := fun v3 v4 v5 v6 v7 v8 v9 v10 v11 v12 v13 v14 v15 v16 v17 v18 v74 k0_hw5 => k0_hw5.2.1
theorem k0_idx67_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v5] : Fin 2 → IVec S16 32) a x).toNat < S64x256.size a := fun v3 v4 v5 v6 v7 v8 v9 v10 v11 v12 v13 v14 v15 v16 v17 v18 v74 k0_hw5 => k0_hw5.2.2.1
theorem k0_idx68_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v6] : Fin 2 → IVec S16 32) a x).toNat < S64x256.size a := fun v3 v4 v5 v6 v7 v8 v9 v10 v11 v12 v13 v14 v15 v16 v17 v18 v74 k0_hw5 => k0_hw5.2.2.2.1
theorem k0_idx69_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v7] : Fin 2 → IVec S16 32) a x).toNat < S64x256.size a := fun v3 v4 v5 v6 v7 v8 v9 v10 v11 v12 v13 v14 v15 v16 v17 v18 v74 k0_hw5 => k0_hw5.2.2.2.2.1
theorem k0_idx70_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v8] : Fin 2 → IVec S16 32) a x).toNat < S64x256.size a := fun v3 v4 v5 v6 v7 v8 v9 v10 v11 v12 v13 v14 v15 v16 v17 v18 v74 k0_hw5 => k0_hw5.2.2.2.2.2.1
theorem k0_idx71_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v9] : Fin 2 → IVec S16 32) a x).toNat < S64x256.size a := fun v3 v4 v5 v6 v7 v8 v9 v10 v11 v12 v13 v14 v15 v16 v17 v18 v74 k0_hw5 => k0_hw5.2.2.2.2.2.2.1
theorem k0_idx72_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v10] : Fin 2 → IVec S16 32) a x).toNat < S64x256.size a := fun v3 v4 v5 v6 v7 v8 v9 v10 v11 v12 v13 v14 v15 v16 v17 v18 v74 k0_hw5 => k0_hw5.2.2.2.2.2.2.2.1
theorem k0_idx73_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v11] : Fin 2 → IVec S16 32) a x).toNat < S64x256.size a := fun v3 v4 v5 v6 v7 v8 v9 v10 v11 v12 v13 v14 v15 v16 v17 v18 v74 k0_hw5 => k0_hw5.2.2.2.2.2.2.2.2.1
theorem k0_idx74_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v12] : Fin 2 → IVec S16 32) a x).toNat < S64x256.size a := fun v3 v4 v5 v6 v7 v8 v9 v10 v11 v12 v13 v14 v15 v16 v17 v18 v74 k0_hw5 => k0_hw5.2.2.2.2.2.2.2.2.2.1
theorem k0_idx75_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v13] : Fin 2 → IVec S16 32) a x).toNat < S64x256.size a := fun v3 v4 v5 v6 v7 v8 v9 v10 v11 v12 v13 v14 v15 v16 v17 v18 v74 k0_hw5 => k0_hw5.2.2.2.2.2.2.2.2.2.2.1
theorem k0_idx76_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v14] : Fin 2 → IVec S16 32) a x).toNat < S64x256.size a := fun v3 v4 v5 v6 v7 v8 v9 v10 v11 v12 v13 v14 v15 v16 v17 v18 v74 k0_hw5 => k0_hw5.2.2.2.2.2.2.2.2.2.2.2.1
theorem k0_idx77_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v15] : Fin 2 → IVec S16 32) a x).toNat < S64x256.size a := fun v3 v4 v5 v6 v7 v8 v9 v10 v11 v12 v13 v14 v15 v16 v17 v18 v74 k0_hw5 => k0_hw5.2.2.2.2.2.2.2.2.2.2.2.2.1
theorem k0_idx78_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v16] : Fin 2 → IVec S16 32) a x).toNat < S64x256.size a := fun v3 v4 v5 v6 v7 v8 v9 v10 v11 v12 v13 v14 v15 v16 v17 v18 v74 k0_hw5 => k0_hw5.2.2.2.2.2.2.2.2.2.2.2.2.2.1
theorem k0_idx79_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v17] : Fin 2 → IVec S16 32) a x).toNat < S64x256.size a := fun v3 v4 v5 v6 v7 v8 v9 v10 v11 v12 v13 v14 v15 v16 v17 v18 v74 k0_hw5 => k0_hw5.2.2.2.2.2.2.2.2.2.2.2.2.2.2.1
theorem k0_idx80_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw5 : k0_chk5 v3 v4 v5 v6 v7 v8 v9 v10 v11 v12 v13 v14 v15 v16 v17 v18 v74), ∀ a x, ((![v74, v18] : Fin 2 → IVec S16 32) a x).toNat < S64x256.size a := fun v3 v4 v5 v6 v7 v8 v9 v10 v11 v12 v13 v14 v15 v16 v17 v18 v74 k0_hw5 => k0_hw5.2.2.2.2.2.2.2.2.2.2.2.2.2.2.2
def k0_off85 (k0_t6 : Fin k0_t6_loop.trips) : Fin 2 → Nat :=
  let c0_i32_60 : BitVec 32 := 0#32
  let c0_i32_35 : BitVec 32 := 0#32
  let c1_i32_37 : BitVec 32 := 1#32
  let arg14 : BitVec 32 := Scf.iv c0_i32_35 c1_i32_37 k0_t6
  let c1_i32_59 : BitVec 32 := 1#32
  let v72 : BitVec 32 := Scalar.muli arg14 c1_i32_59
  let v73 : BitVec 32 := Scalar.addi c0_i32_60 v72
  let v121 : Index := Scalar.indexCast v73
  let c240_76 : Index := 240#32
  ![v121.toNat, 240]
@[reducible] def k0_t7_loop : Scf.Loop 32 :=
  let c0_i32_46 : BitVec 32 := 0#32
  let c64_i32_47 : BitVec 32 := 64#32
  let v62 : BitVec 32 := Scalar.addi c0_i32_46 c64_i32_47
  let c1_i32_48 : BitVec 32 := 1#32
  ⟨c0_i32_46, v62, c1_i32_48⟩
def k0_off86 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v76 : Index := Scalar.indexCast v73
  let c0_61 : Index := 0#32
  ![v76.toNat, 0]
def k0_off87 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v79 : Index := Scalar.indexCast v73
  let c16_62 : Index := 16#32
  ![v79.toNat, 16]
def k0_off88 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v82 : Index := Scalar.indexCast v73
  let c32_63 : Index := 32#32
  ![v82.toNat, 32]
def k0_off89 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v85 : Index := Scalar.indexCast v73
  let c48_64 : Index := 48#32
  ![v85.toNat, 48]
def k0_off90 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v88 : Index := Scalar.indexCast v73
  let c64_65 : Index := 64#32
  ![v88.toNat, 64]
def k0_off91 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v91 : Index := Scalar.indexCast v73
  let c80_66 : Index := 80#32
  ![v91.toNat, 80]
def k0_off92 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v94 : Index := Scalar.indexCast v73
  let c96_67 : Index := 96#32
  ![v94.toNat, 96]
def k0_off93 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v97 : Index := Scalar.indexCast v73
  let c112_68 : Index := 112#32
  ![v97.toNat, 112]
def k0_off94 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v100 : Index := Scalar.indexCast v73
  let c128_69 : Index := 128#32
  ![v100.toNat, 128]
def k0_off95 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v103 : Index := Scalar.indexCast v73
  let c144_70 : Index := 144#32
  ![v103.toNat, 144]
def k0_off96 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v106 : Index := Scalar.indexCast v73
  let c160_71 : Index := 160#32
  ![v106.toNat, 160]
def k0_off97 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v109 : Index := Scalar.indexCast v73
  let c176_72 : Index := 176#32
  ![v109.toNat, 176]
def k0_off98 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v112 : Index := Scalar.indexCast v73
  let c192_73 : Index := 192#32
  ![v112.toNat, 192]
def k0_off99 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v115 : Index := Scalar.indexCast v73
  let c208_74 : Index := 208#32
  ![v115.toNat, 208]
def k0_off100 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v118 : Index := Scalar.indexCast v73
  let c224_75 : Index := 224#32
  ![v118.toNat, 224]

def k0_chk6 (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) : Prop :=
  (∀ a x, ((![v74, v3] : Fin 2 → IVec S16 32) a x).toNat < S64x256.size a) ∧
  (∀ a x, ((![v74, v4] : Fin 2 → IVec S16 32) a x).toNat < S64x256.size a) ∧
  (∀ a x, ((![v74, v5] : Fin 2 → IVec S16 32) a x).toNat < S64x256.size a) ∧
  (∀ a x, ((![v74, v6] : Fin 2 → IVec S16 32) a x).toNat < S64x256.size a) ∧
  (∀ a x, ((![v74, v7] : Fin 2 → IVec S16 32) a x).toNat < S64x256.size a) ∧
  (∀ a x, ((![v74, v8] : Fin 2 → IVec S16 32) a x).toNat < S64x256.size a) ∧
  (∀ a x, ((![v74, v9] : Fin 2 → IVec S16 32) a x).toNat < S64x256.size a) ∧
  (∀ a x, ((![v74, v10] : Fin 2 → IVec S16 32) a x).toNat < S64x256.size a) ∧
  (∀ a x, ((![v74, v11] : Fin 2 → IVec S16 32) a x).toNat < S64x256.size a) ∧
  (∀ a x, ((![v74, v12] : Fin 2 → IVec S16 32) a x).toNat < S64x256.size a) ∧
  (∀ a x, ((![v74, v13] : Fin 2 → IVec S16 32) a x).toNat < S64x256.size a) ∧
  (∀ a x, ((![v74, v14] : Fin 2 → IVec S16 32) a x).toNat < S64x256.size a) ∧
  (∀ a x, ((![v74, v15] : Fin 2 → IVec S16 32) a x).toNat < S64x256.size a) ∧
  (∀ a x, ((![v74, v16] : Fin 2 → IVec S16 32) a x).toNat < S64x256.size a) ∧
  (∀ a x, ((![v74, v17] : Fin 2 → IVec S16 32) a x).toNat < S64x256.size a) ∧
  (∀ a x, ((![v74, v18] : Fin 2 → IVec S16 32) a x).toNat < S64x256.size a)
theorem k0_idx81_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v3] : Fin 2 → IVec S16 32) a x).toNat < S64x256.size a := fun v3 v4 v5 v6 v7 v8 v9 v10 v11 v12 v13 v14 v15 v16 v17 v18 v74 k0_hw6 => k0_hw6.1
theorem k0_idx82_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v4] : Fin 2 → IVec S16 32) a x).toNat < S64x256.size a := fun v3 v4 v5 v6 v7 v8 v9 v10 v11 v12 v13 v14 v15 v16 v17 v18 v74 k0_hw6 => k0_hw6.2.1
theorem k0_idx83_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v5] : Fin 2 → IVec S16 32) a x).toNat < S64x256.size a := fun v3 v4 v5 v6 v7 v8 v9 v10 v11 v12 v13 v14 v15 v16 v17 v18 v74 k0_hw6 => k0_hw6.2.2.1
theorem k0_idx84_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v6] : Fin 2 → IVec S16 32) a x).toNat < S64x256.size a := fun v3 v4 v5 v6 v7 v8 v9 v10 v11 v12 v13 v14 v15 v16 v17 v18 v74 k0_hw6 => k0_hw6.2.2.2.1
theorem k0_idx85_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v7] : Fin 2 → IVec S16 32) a x).toNat < S64x256.size a := fun v3 v4 v5 v6 v7 v8 v9 v10 v11 v12 v13 v14 v15 v16 v17 v18 v74 k0_hw6 => k0_hw6.2.2.2.2.1
theorem k0_idx86_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v8] : Fin 2 → IVec S16 32) a x).toNat < S64x256.size a := fun v3 v4 v5 v6 v7 v8 v9 v10 v11 v12 v13 v14 v15 v16 v17 v18 v74 k0_hw6 => k0_hw6.2.2.2.2.2.1
theorem k0_idx87_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v9] : Fin 2 → IVec S16 32) a x).toNat < S64x256.size a := fun v3 v4 v5 v6 v7 v8 v9 v10 v11 v12 v13 v14 v15 v16 v17 v18 v74 k0_hw6 => k0_hw6.2.2.2.2.2.2.1
theorem k0_idx88_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v10] : Fin 2 → IVec S16 32) a x).toNat < S64x256.size a := fun v3 v4 v5 v6 v7 v8 v9 v10 v11 v12 v13 v14 v15 v16 v17 v18 v74 k0_hw6 => k0_hw6.2.2.2.2.2.2.2.1
theorem k0_idx89_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v11] : Fin 2 → IVec S16 32) a x).toNat < S64x256.size a := fun v3 v4 v5 v6 v7 v8 v9 v10 v11 v12 v13 v14 v15 v16 v17 v18 v74 k0_hw6 => k0_hw6.2.2.2.2.2.2.2.2.1
theorem k0_idx90_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v12] : Fin 2 → IVec S16 32) a x).toNat < S64x256.size a := fun v3 v4 v5 v6 v7 v8 v9 v10 v11 v12 v13 v14 v15 v16 v17 v18 v74 k0_hw6 => k0_hw6.2.2.2.2.2.2.2.2.2.1
theorem k0_idx91_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v13] : Fin 2 → IVec S16 32) a x).toNat < S64x256.size a := fun v3 v4 v5 v6 v7 v8 v9 v10 v11 v12 v13 v14 v15 v16 v17 v18 v74 k0_hw6 => k0_hw6.2.2.2.2.2.2.2.2.2.2.1
theorem k0_idx92_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v14] : Fin 2 → IVec S16 32) a x).toNat < S64x256.size a := fun v3 v4 v5 v6 v7 v8 v9 v10 v11 v12 v13 v14 v15 v16 v17 v18 v74 k0_hw6 => k0_hw6.2.2.2.2.2.2.2.2.2.2.2.1
theorem k0_idx93_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v15] : Fin 2 → IVec S16 32) a x).toNat < S64x256.size a := fun v3 v4 v5 v6 v7 v8 v9 v10 v11 v12 v13 v14 v15 v16 v17 v18 v74 k0_hw6 => k0_hw6.2.2.2.2.2.2.2.2.2.2.2.2.1
theorem k0_idx94_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v16] : Fin 2 → IVec S16 32) a x).toNat < S64x256.size a := fun v3 v4 v5 v6 v7 v8 v9 v10 v11 v12 v13 v14 v15 v16 v17 v18 v74 k0_hw6 => k0_hw6.2.2.2.2.2.2.2.2.2.2.2.2.2.1
theorem k0_idx95_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v17] : Fin 2 → IVec S16 32) a x).toNat < S64x256.size a := fun v3 v4 v5 v6 v7 v8 v9 v10 v11 v12 v13 v14 v15 v16 v17 v18 v74 k0_hw6 => k0_hw6.2.2.2.2.2.2.2.2.2.2.2.2.2.2.1
theorem k0_idx96_inb : ∀ (v3 : IVec S16 32) (v4 : IVec S16 32) (v5 : IVec S16 32) (v6 : IVec S16 32) (v7 : IVec S16 32) (v8 : IVec S16 32) (v9 : IVec S16 32) (v10 : IVec S16 32) (v11 : IVec S16 32) (v12 : IVec S16 32) (v13 : IVec S16 32) (v14 : IVec S16 32) (v15 : IVec S16 32) (v16 : IVec S16 32) (v17 : IVec S16 32) (v18 : IVec S16 32) (v74 : IVec S16 32) (k0_hw6 : k0_chk6 v3 v4 v5 v6 v7 v8 v9 v10 v11 v12 v13 v14 v15 v16 v17 v18 v74), ∀ a x, ((![v74, v18] : Fin 2 → IVec S16 32) a x).toNat < S64x256.size a := fun v3 v4 v5 v6 v7 v8 v9 v10 v11 v12 v13 v14 v15 v16 v17 v18 v74 k0_hw6 => k0_hw6.2.2.2.2.2.2.2.2.2.2.2.2.2.2.2
def k0_off101 (k0_t7 : Fin k0_t7_loop.trips) : Fin 2 → Nat :=
  let c0_i32_60 : BitVec 32 := 0#32
  let c0_i32_46 : BitVec 32 := 0#32
  let c1_i32_48 : BitVec 32 := 1#32
  let arg14 : BitVec 32 := Scf.iv c0_i32_46 c1_i32_48 k0_t7
  let c1_i32_59 : BitVec 32 := 1#32
  let v72 : BitVec 32 := Scalar.muli arg14 c1_i32_59
  let v73 : BitVec 32 := Scalar.addi c0_i32_60 v72
  let v121 : Index := Scalar.indexCast v73
  let c240_76 : Index := 240#32
  ![v121.toNat, 240]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S65536x256 : Shape := ⟨2, ![65536, 256]⟩
abbrev S256 : Shape := ⟨1, ![256]⟩
abbrev S_ : Shape := ⟨0, ![]⟩
abbrev S256x1 : Shape := ⟨2, ![256, 1]⟩
abbrev S65536 : Shape := ⟨1, ![65536]⟩

abbrev nBuf : Space → Nat
  | .hbm => 13
  | .vmem => 0
  | .smem => 0
  | _ => 0

abbrev bufTy : (tb : Table) → Fin (tcTables nBuf tb) → BufTy
  | .hbm, ⟨0, _⟩ => ⟨S65536x256, .f32⟩
  | .hbm, ⟨1, _⟩ => ⟨S256, .i32⟩
  | .hbm, ⟨2, _⟩ => ⟨S_, .i32⟩
  | .hbm, ⟨3, _⟩ => ⟨S256, .i32⟩
  | .hbm, ⟨4, _⟩ => ⟨S256, .i1⟩
  | .hbm, ⟨5, _⟩ => ⟨S_, .i32⟩
  | .hbm, ⟨6, _⟩ => ⟨S256, .i32⟩
  | .hbm, ⟨7, _⟩ => ⟨S256, .i32⟩
  | .hbm, ⟨8, _⟩ => ⟨S256, .i32⟩
  | .hbm, ⟨9, _⟩ => ⟨S256x1, .i32⟩
  | .hbm, ⟨10, _⟩ => ⟨S65536x256, .f32⟩
  | .hbm, ⟨11, _⟩ => ⟨S_, .f32⟩
  | .hbm, ⟨12, _⟩ => ⟨S65536, .f32⟩
  | _, _ => ⟨S65536x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_c_0 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst : Ref sig .tc := ⟨.hbm, 11, rfl⟩
abbrev main_v7 : Ref sig .tc := ⟨.hbm, 12, rfl⟩

abbrev nD : Nat := 1
abbrev τ : Topo := Topo.v7x

variable {F : FTy → Type} [FloatOps F]
-- ==== Proof.InRange.lean ====
/-
  What the precondition says of the permutation: each of its words, read unsigned, names a column.
-/
module

public import proofs.«01_k».proof.Proof.Gen.Pre_in_range
public import Idealize.ShloMosaic.Lib.ReduceAll

@[expose] public section

noncomputable section

namespace Cert.Proof.Perm

open Idealize.ShloMosaic
open Cert.Pre_in_range Cert.Pre_in_range.Gen

variable {F : FTy → Type} [FloatOps F]

/-- A word between 0 and 255 when read signed is below 256 when read unsigned. -/
theorem toNat_lt_of_signed {w : BitVec 32} (h0 : 0 ≤ w.toInt) (h1 : w.toInt < 256) : w.toNat < 256 := by
  rw [BitVec.toInt_eq_toNat_cond] at h0 h1
  split at h0 <;> omega

/-- The precondition is a conjunction over the 256 words of `0 ≤ word < 256`, signed; when it is true every word names a column. -/
theorem lt_of_pre (X : FVec F S65536x256 .f32) (p : IVec S256 32) (h : fn X p = fun _ => 1#1) (c : S256.Idx) : (p c).toNat < 256 := by
  haveI : Subsingleton S_.Idx := ⟨fun a b => funext fun k => k.elim0⟩
  have e := Host.reduce_andi_all _ _ _ _ (fun k => k.elim0) (congrFun h fun k => k.elim0) c
  obtain ⟨e0, e1⟩ := IntOp.andi_eq_one.1 e
  refine toNat_lt_of_signed ?_ ?_
  · exact IntOp.cmpi_sge.1 e0
  · exact IntOp.cmpi_slt.1 e1

end Cert.Proof.Perm

end
-- ==== Proof.Common.lean ====
/-
  What every module of this proof shares: the launch as the SparseCore library sees it, the resource algebra, a vector
  subcore's thread at symbolic coordinates, and the assertion `held` — "the buffer behind this memory reference reads `g`".
-/
module

public import proofs.«01_k».proof.Defs
public import Idealize.ShloMosaic.Lib.SparseCore.Quiescent
public import Idealize.ShloMosaic.Lib.StableHlo.Run
public import Idealize.ShloMosaic.Lib.Pipeline.Kit
public import Idealize.ShloMosaic.Lib.Tactic
public import proofs.«01_k».proof.Proof.Gen.KernelIdeal
public import proofs.«01_k».proof.Proof.Gen.KernelIdeal.Skeleton

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The launch -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

/-- The resources: the handshakes' rounds beside the copies' counters. -/
abbrev UH : Type := URounds (GSem nD τ sig) ℕ
abbrev UU : Type := UH × Counters

local notation "𝕄" => MT nD τ sig (HIx 1) (Elt F) ℕ UU ℕ

abbrev EH : Emb UH (MT nD τ sig (HIx 1) (Elt F) ℕ UU ℕ) := embL

/-! ## A vector subcore -/

/-- The physical core and subcore of a grid point, and the thread there. -/
abbrev cV (L : grid0.Coords) : Fin τ.nSC := (L 0).castLE hcore0
abbrev jV (L : grid0.Coords) : Fin τ.nSub := (L 1).castLE hsub0
abbrev thr (d : Dev nD) (L : grid0.Coords) : Thread nD τ := V d (cV L) (jV L)

/-- A program of the vector subcore at grid point `L`. -/
abbrev TProg (F : FTy → Type) (L : grid0.Coords) (α : Type) : Type 1 :=
  Prog (TpuEff nD τ sig (Elt F) Λ₀ (.scVector ((L 0).castLE hcore0) ((L 1).castLE hsub0))) α

/-- The weakest precondition of such a program under the kernel's own procedures. -/
abbrev tw [FloatOps F] (d : Dev nD) (L : grid0.Coords) {α : Type} (p : TProg F L α) (Q : α → sProp 𝕄) : sProp 𝕄 :=
  wp frame (wpE (defs₀ (F := F)) 𝒱₀ (thr d L) none) Set.univ p Q

/-- A chunk buffer in the subcore's own memory. -/
abbrev Chunk : Type := Memref sig .scVector .vmem S64x256 .f32

/-- The buffer behind `b`, owned outright, reads `g` through `b`. -/
def held (d : Dev nD) (L : grid0.Coords) {sp : Space} {s : Shape} {e : EltTy} (b : Memref sig .scVector sp s e) (g : s.Idx → Elt F e) :
    sProp 𝕄 :=
  iprop(∃ f : Buf (Elt F) (b.view.loc (thr d L)), (b.view.loc (thr d L) ↦[b.view.set]{fullShare} f) ∗ ⌜b.view.read (Elt F) f = g⌝)

end Cert.Proof.Perm
-- ==== Proof.Rows.lean ====
/-
  One chunk's compute, once for every place it stands: a row is sixteen groups, each a gather of sixteen lanes of the in buffer and
  a store of them to the out buffer; a chunk is its sixty-four rows.
-/
module

public import proofs.«01_k».proof.Proof.Common
public import Idealize.ShloMosaic.Lib.Pipeline.Value

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- One group of a row: the lanes' columns, where the sixteen words are stored, and that both are in range. -/
structure Grp (row : IVec S16 32) where
  col : IVec S16 32
  off : Fin 2 → ℕ
  hidx : ∀ a x, ((![row, col] : Fin 2 → IVec S16 32) a x).toNat < S64x256.size a
  hoff : ∀ a, off a + S1x16.size a ≤ S64x256.size a

/-- The groups of a row one after another: gather, (a load the program makes and drops,) store. -/
def groups (L : grid0.Coords) (src dst : Chunk) (row : IVec S16 32) : List (Grp row) → TProg F L PUnit
  | [] => pure ⟨⟩
  | g :: gs => do
    let w : Vec F S16 .f32 ← SparseCore.vectorLoadIdx src ![row, g.col] g.hidx (View.loads_vmem h_S64x256)
    let _ld : Vec F S1x16 .f32 ← Prog.lift (.load dst (Rect.unit (s := S64x256) g.off S1x16.size g.hoff).toLoadRect (View.loadsAt_vmem h_S1x16))
    Prog.lift (.store dst (Rect.unit (s := S64x256) g.off S1x16.size g.hoff) (shapeCast S1x16 w shapeCasts_S16_S1x16) Finset.univ
      (View.stores_vmem_bits_univ h_S1x16 rfl) (.inl rfl))
    groups L src dst row gs

/-- A row: the range check, then its groups. -/
def rowProg (L : grid0.Coords) (src dst : Chunk) (row : IVec S16 32) (Pr : Prop) (dec : Decidable Pr) (gs : Pr → List (Grp row)) :
    TProg F L PUnit := do
  let h := (← Prog.lift (TpuEff.assume Pr dec)).down
  groups L src dst row (gs h)

/-! ## One group -/

/-- What a group stores is right: sixteen words of row `r` from column `16 j`, each the value `G` has there. -/
def Grp.Ok {row : IVec S16 32} (X G : S64x256.Idx → Elt F .f32) (r : ℕ) (j : ℕ) (g : Grp row) : Prop :=
  g.off = ![r, 16 * j] ∧ ∀ (x : S16.Idx) (i : S64x256.Idx), (i 0 : ℕ) = r → (i 1 : ℕ) = 16 * j + (x 0 : ℕ) → X (idxAt ![row, g.col] g.hidx x) = G i

/-- The elements of a chunk that `j` groups of row `r` leave done. -/
def Done (r j : ℕ) (i : S64x256.Idx) : Prop := (i 0 : ℕ) < r ∨ (i 0 : ℕ) = r ∧ (i 1 : ℕ) < 16 * j

/-- The out buffer is owned and its done elements read `G`. -/
def partly (d : Dev nD) (L : grid0.Coords) (b : Chunk) (G : S64x256.Idx → Elt F .f32) (r j : ℕ) : sProp 𝕄 :=
  iprop(∃ f : Buf (Elt F) (b.view.loc (thr d L)), (b.view.loc (thr d L) ↦[b.view.set]{fullShare} f)
    ∗ ⌜∀ i, Done r j i → b.view.read (Elt F) f i = G i⌝)

omit [FloatOps F] in
/-- Storing one right group extends the done part by it. -/
theorem store_done (b : Chunk) {row : IVec S16 32} {X G : S64x256.Idx → Elt F .f32} {r j : ℕ} (g : Grp row) (hg : g.Ok X G r j)
    (f : b.view.ty.Contents (Elt F)) (hf : ∀ i, Done r j i → b.view.read (Elt F) f i = G i) (i : S64x256.Idx) (hi : Done r (j + 1) i) :
    b.view.read (Elt F) ((b.access (Rect.unit (s := S64x256) g.off S1x16.size g.hoff)).write (Elt F) f
      (shapeCast S1x16 (loadIdx (F := F) (e := .f32) X ![row, g.col] g.hidx) shapeCasts_S16_S1x16) Finset.univ) i = G i := by
  obtain ⟨ho, hv⟩ := hg
  have o0 : g.off 0 = r := congrFun ho 0
  have o1 : g.off 1 = 16 * j := congrFun ho 1
  by_cases hm : i ∈ (Rect.unit (s := S64x256) g.off S1x16.size g.hoff).set
  · rw [← Rect.map_emb_univ] at hm
    obtain ⟨y, -, rfl⟩ := Finset.mem_map.mp hm
    rw [View.read_slice_write_emb _ _ _ (Finset.mem_univ y)]
    rw [shapeCast_addUnit_apply]
    have h0 : (y 0 : ℕ) < 1 := (y 0).isLt
    have e0 : ((Rect.unit (s := S64x256) g.off S1x16.size g.hoff).emb y 0 : ℕ) = g.off 0 + 1 * y 0 := rfl
    have e1 : ((Rect.unit (s := S64x256) g.off S1x16.size g.hoff).emb y 1 : ℕ) = g.off 1 + 1 * y 1 := rfl
    refine hv _ _ (e0.trans (by omega)) (e1.trans ?_)
    rw [o1]; show 16 * j + 1 * (y 1 : ℕ) = 16 * j + (y 1 : ℕ); omega
  · refine (View.read_slice_write_of_not_mem _ _ _ _ (by rwa [Rect.map_emb_univ])).trans (hf i ?_)
    rw [Rect.mem_set_unit] at hm
    rcases hi with hi | ⟨hi, hj⟩
    · exact .inl hi
    · refine .inr ⟨hi, ?_⟩
      by_contra hlt
      exact hm (Fin.forall_fin_two.mpr ⟨by show _ ∧ _ < g.off 0 + 1; omega,
        by show _ ∧ _ < g.off 1 + 16; omega⟩)

/-- The groups of a row, run from any done part: the done part grows by all of them, the in buffer stays. -/
theorem wp_groups (d : Dev nD) (L : grid0.Coords) (src dst : Chunk) (row : IVec S16 32) (X G : S64x256.Idx → Elt F .f32) (r : ℕ)
    (gs : List (Grp row)) : ∀ (j : ℕ) (_ : ∀ k (hk : k < gs.length), (gs[k]).Ok X G r (j + k)) (Q : PUnit → sProp 𝕄),
    iprop(held d L src X ∗ partly d L dst G r j)
      ⊢ iprop((iprop(held d L src X ∗ partly d L dst G r (j + gs.length)) -∗ Q ⟨⟩) -∗ tw d L (groups L src dst row gs) Q) := by
  induction gs with
  | nil =>
    intro j _ Q
    iintro H HK
    unfold groups
    rw [show tw d L (pure ⟨⟩ : TProg F L PUnit) Q = iprop(|={Set.univ}[frame]=> Q ⟨⟩) from wp_pure _ _ _ _ _]
    imodintro
    iapply HK
    iexact H
  | cons g gs ih =>
    intro j hok Q
    have hg : g.Ok X G r j := hok 0 (Nat.zero_lt_succ _)
    have htl : ∀ k (hk : k < gs.length), (gs[k]).Ok X G r (j + 1 + k) := fun k hk => by
      have := hok (k + 1) (Nat.succ_lt_succ hk)
      rwa [List.getElem_cons_succ, show j + (k + 1) = j + 1 + k by omega] at this
    unfold held partly
    iintro ⟨⟨%fs, Hs, %hs⟩, ⟨%fd, Hd, %hd⟩⟩ HK
    unfold groups
    iapply (SparseCore.wp_vectorLoadIdx (defs := defs₀ (F := F)) 𝒱₀ (thr d L) none Set.univ (base := src) (S := src.view.set) (f := fs)
      (by rw [View.set_slice, Rect.set_whole]; exact subset_rfl)) $$ Hs
    iintro Hs
    iapply (wp_load (defs := defs₀ (F := F)) 𝒱₀ (thr d L) none Set.univ (m := dst) (S := dst.view.set) (q := fullShare) (f := fd)
      (View.setOn_subset_set _ _)) $$ Hd
    iintro Hd
    iapply (wp_store (defs := defs₀ (F := F)) 𝒱₀ (thr d L) none Set.univ (m := dst) (S := dst.view.set) (f := fd)
      (r := Rect.unit (s := S64x256) g.off S1x16.size g.hoff) (Mk := Finset.univ) (View.set_slice_subset _ _)) $$ Hd
    iintro Hd
    iapply (ih (j + 1) htl Q) $$ [Hs Hd]
    · unfold held partly
      isplitl [Hs]
      · iexists fs; isplitl [Hs]; · iexact Hs
        ipureintro; exact hs
      · iexists _; isplitl [Hd]; · iexact Hd
        ipureintro
        intro i hi
        have hX : (src.access (Rect.whole S64x256)).read (Elt F) fs = X := by
          rw [← hs]; funext x
          show src.view.read (Elt F) fs ((Rect.whole S64x256).emb x) = _
          rw [Rect.emb_whole_apply]
        rw [hX]
        exact store_done dst g hg fd hd i hi
    · iintro H; iapply HK
      rw [List.length_cons, show j + (gs.length + 1) = j + 1 + gs.length by omega]
      iexact H

/-- A row: its range check holds, then its groups. -/
theorem wp_rowProg (d : Dev nD) (L : grid0.Coords) (src dst : Chunk) (row : IVec S16 32) (Pr : Prop) (dec : Decidable Pr) (gs : Pr → List (Grp row))
    (X G : S64x256.Idx → Elt F .f32) (r : ℕ) (hP : Pr) (hok : ∀ k (hk : k < (gs hP).length), ((gs hP)[k]).Ok X G r k) (Q : PUnit → sProp 𝕄) :
    iprop(held d L src X ∗ partly d L dst G r 0)
      ⊢ iprop((iprop(held d L src X ∗ partly d L dst G r (gs hP).length) -∗ Q ⟨⟩) -∗ tw d L (rowProg L src dst row Pr dec gs) Q) := by
  have e : tw d L (rowProg L src dst row Pr dec gs) Q = tw d L (groups L src dst row (gs hP)) Q :=
    wp_assume_of (defs := defs₀ (F := F)) (c := thr d L) (𝒱 := 𝒱₀) (bd := none) (E := Set.univ) (d := dec)
      (k := fun h => groups L src dst row (gs h.down)) hP
  rw [e]
  have := wp_groups d L src dst row X G r (gs hP) 0 (fun k hk => by rw [Nat.zero_add]; exact hok k hk) Q
  rwa [Nat.zero_add] at this

/-! ## The kernel's rows -/

/-- Row `t`'s number as the program computes it, and that word in all sixteen lanes. -/
def rowWord (t : Fin k0_t1_loop.trips) : BitVec 32 := Scalar.addi 0#32 (Scalar.muli (Scf.iv 0#32 1#32 t) 1#32)
def rowVec (t : Fin k0_t1_loop.trips) : IVec S16 32 := broadcast S16 (rowWord t)

theorem trips_eq : k0_t1_loop.trips = 64 := by decide

theorem rowWord_toNat : ∀ t : Fin k0_t1_loop.trips, (rowWord t).toNat = t := by decide

/-- Index (`r`, `c`) of a chunk. -/
def ix (r : Fin 64) (c : Fin 256) : S64x256.Idx := fun | 0 => r | 1 => c | ⟨_ + 2, h⟩ => absurd h (Nat.not_lt.2 (Nat.le_add_left _ _))

/-- The column a permutation's word names. -/
def col (w : BitVec 32) : Fin 256 := ⟨w.toNat % 256, Nat.mod_lt _ (by decide)⟩

/-- The permutation's entry `c`, off its array. -/
def ix1 (c : Fin 256) : S256.Idx := fun | 0 => c | ⟨_ + 1, h⟩ => absurd h (Nat.not_lt.2 (Nat.le_add_left _ _))

/-- A chunk's columns permuted: column `c` of the result is column `p c`. -/
def permG {α : Type} (p : S256.Idx → BitVec 32) (X : S64x256.Idx → α) : S64x256.Idx → α := fun i => X (ix (i 0) (col (p (ix1 (i 1)))))

/-- Lanes `16 j … 16 j + 15` of the permutation. -/
def lanes (p : S256.Idx → BitVec 32) (j : Fin 16) : IVec S16 32 := fun x => p (ix1 ⟨16 * j + (x 0 : ℕ), by
  have h : (x 0 : ℕ) < 16 := (x 0).isLt
  omega⟩)

/-- The sixteen groups of row `t` over the lanes' columns `V`. -/
def rowGrps (V : Fin 16 → IVec S16 32) (t : Fin k0_t1_loop.trips)
    (h : k0_chk1 (V 0) (V 1) (V 2) (V 3) (V 4) (V 5) (V 6) (V 7) (V 8) (V 9) (V 10) (V 11) (V 12) (V 13) (V 14) (V 15) (rowVec t)) : List (Grp (rowVec t)) :=
  [⟨V 0, k0_off2 t, k0_idx1_inb _ _ _ _ _ _ _ _ _ _ _ _ _ _ _ _ _ h, k0_off2_inb t⟩,
    ⟨V 1, k0_off3 t, k0_idx2_inb _ _ _ _ _ _ _ _ _ _ _ _ _ _ _ _ _ h, k0_off3_inb t⟩,
    ⟨V 2, k0_off4 t, k0_idx3_inb _ _ _ _ _ _ _ _ _ _ _ _ _ _ _ _ _ h, k0_off4_inb t⟩,
    ⟨V 3, k0_off5 t, k0_idx4_inb _ _ _ _ _ _ _ _ _ _ _ _ _ _ _ _ _ h, k0_off5_inb t⟩,
    ⟨V 4, k0_off6 t, k0_idx5_inb _ _ _ _ _ _ _ _ _ _ _ _ _ _ _ _ _ h, k0_off6_inb t⟩,
    ⟨V 5, k0_off7 t, k0_idx6_inb _ _ _ _ _ _ _ _ _ _ _ _ _ _ _ _ _ h, k0_off7_inb t⟩,
    ⟨V 6, k0_off8 t, k0_idx7_inb _ _ _ _ _ _ _ _ _ _ _ _ _ _ _ _ _ h, k0_off8_inb t⟩,
    ⟨V 7, k0_off9 t, k0_idx8_inb _ _ _ _ _ _ _ _ _ _ _ _ _ _ _ _ _ h, k0_off9_inb t⟩,
    ⟨V 8, k0_off10 t, k0_idx9_inb _ _ _ _ _ _ _ _ _ _ _ _ _ _ _ _ _ h, k0_off10_inb t⟩,
    ⟨V 9, k0_off11 t, k0_idx10_inb _ _ _ _ _ _ _ _ _ _ _ _ _ _ _ _ _ h, k0_off11_inb t⟩,
    ⟨V 10, k0_off12 t, k0_idx11_inb _ _ _ _ _ _ _ _ _ _ _ _ _ _ _ _ _ h, k0_off12_inb t⟩,
    ⟨V 11, k0_off13 t, k0_idx12_inb _ _ _ _ _ _ _ _ _ _ _ _ _ _ _ _ _ h, k0_off13_inb t⟩,
    ⟨V 12, k0_off14 t, k0_idx13_inb _ _ _ _ _ _ _ _ _ _ _ _ _ _ _ _ _ h, k0_off14_inb t⟩,
    ⟨V 13, k0_off15 t, k0_idx14_inb _ _ _ _ _ _ _ _ _ _ _ _ _ _ _ _ _ h, k0_off15_inb t⟩,
    ⟨V 14, k0_off16 t, k0_idx15_inb _ _ _ _ _ _ _ _ _ _ _ _ _ _ _ _ _ h, k0_off16_inb t⟩,
    ⟨V 15, k0_off17 t, k0_idx16_inb _ _ _ _ _ _ _ _ _ _ _ _ _ _ _ _ _ h, k0_off17_inb t⟩]

/-- Row `t` of a chunk's compute. -/
def chunkBody (L : grid0.Coords) (src dst : Chunk) (V : Fin 16 → IVec S16 32) (t : Fin k0_t1_loop.trips) (_ : Unit) : TProg F L Unit :=
  rowProg L src dst (rowVec t) _ (k0_chk1.dec (V 0) (V 1) (V 2) (V 3) (V 4) (V 5) (V 6) (V 7) (V 8) (V 9) (V 10) (V 11) (V 12) (V 13) (V 14) (V 15) (rowVec t)) (rowGrps V t)

/-- A chunk's compute: its sixty-four rows. -/
def chunkProg (L : grid0.Coords) (src dst : Chunk) (V : Fin 16 → IVec S16 32) : TProg F L Unit :=
  Scf.Loop.for k0_t1_loop k0_t1_ok ⟨⟩ (chunkBody L src dst V)

/-- The row and the columns of one group are in range. -/
theorem lanes_inb (p : S256.Idx → BitVec 32) (hp : ∀ c, (p c).toNat < 256) (t : Fin k0_t1_loop.trips) (j : Fin 16) :
    ∀ a x, ((![rowVec t, lanes p j] : Fin 2 → IVec S16 32) a x).toNat < S64x256.size a :=
  Fin.forall_fin_two.mpr ⟨fun x => by
    have h : (t : ℕ) < 64 := trips_eq ▸ t.isLt
    show (rowWord t).toNat < 64
    rw [rowWord_toNat]; exact h, fun _ => hp _⟩

theorem rowGrps_off (V : Fin 16 → IVec S16 32) (t : Fin k0_t1_loop.trips) (h) :
    (rowGrps V t h).map (fun g => (g.col, g.off)) = List.ofFn fun j : Fin 16 => (V j, ![(t : ℕ), 16 * (j : ℕ)]) := by
  rw [← rowWord_toNat t]; rfl

/-- A right group of a row permutes the columns. -/
theorem grp_ok (p : S256.Idx → BitVec 32) (X : S64x256.Idx → Elt F .f32) (t : Fin k0_t1_loop.trips) (g : Grp (rowVec t)) (j : Fin 16)
    (hc : g.col = lanes p j) (ho : g.off = ![(t : ℕ), 16 * (j : ℕ)]) : g.Ok X (permG p X) t j := by
  refine ⟨ho, fun x i h0 h1 => congrArg X (funext (Fin.forall_fin_two.mpr ⟨Fin.ext ?_, Fin.ext ?_⟩))⟩
  · show (rowWord t).toNat = (i 0 : ℕ)
    rw [rowWord_toNat, h0]
  · have hb : (g.col x).toNat < 256 := g.hidx 1 x
    have e : g.col x = p (ix1 (i 1)) := by
      rw [hc]; exact congrArg p (congrArg ix1 (Fin.ext h1.symm))
    show (g.col x).toNat = (p (ix1 (i 1))).toNat % 256
    rw [← e, Nat.mod_eq_of_lt hb]

/-- A chunk's compute leaves the in buffer and fills the out buffer with the in buffer's columns permuted. -/
theorem wp_chunk (d : Dev nD) (L : grid0.Coords) (src dst : Chunk) (p : S256.Idx → BitVec 32) (hp : ∀ c, (p c).toNat < 256)
    (X : S64x256.Idx → Elt F .f32) {β : Type} (kk : Unit → TProg F L β) (Q : β → sProp 𝕄) :
    iprop(held d L src X ∗ ∃ g, held d L dst g)
      ⊢ iprop((iprop(held d L src X ∗ held d L dst (permG p X)) -∗ tw d L (kk ()) Q) -∗ tw d L (chunkProg L src dst (lanes p) >>= kk) Q) := by
  have hbody : ∀ (t : Fin k0_t1_loop.trips) (acc : Unit),
      iprop(held d L src X ∗ partly d L dst (permG p X) t 0)
        ⊢ tw d L (chunkBody L src dst (lanes p) t acc) fun _ => iprop(held d L src X ∗ partly d L dst (permG p X) (t + 1) 0) := by
    intro t acc
    have hP : k0_chk1 (lanes p 0) (lanes p 1) (lanes p 2) (lanes p 3) (lanes p 4) (lanes p 5) (lanes p 6) (lanes p 7) (lanes p 8) (lanes p 9) (lanes p 10) (lanes p 11) (lanes p 12) (lanes p 13) (lanes p 14) (lanes p 15) (rowVec t) := by
      have h := lanes_inb p hp t
      exact ⟨h 0, h 1, h 2, h 3, h 4, h 5, h 6, h 7, h 8, h 9, h 10, h 11, h 12, h 13, h 14, h 15⟩
    have hmap := rowGrps_off (lanes p) t hP
    have hlen : (rowGrps (lanes p) t hP).length = 16 := rfl
    iintro H
    have hok : ∀ k (hk : k < (rowGrps (lanes p) t hP).length), ((rowGrps (lanes p) t hP)[k]).Ok X (permG p X) t k := fun k hk => by
      have e := congrArg (fun l => l[k]?) hmap
      have hk' : k < 16 := hk
      simp only [List.getElem?_map, List.getElem?_eq_getElem hk, List.getElem?_ofFn, hk', ↓reduceDIte, Option.map_some, Option.some.injEq,
        Prod.mk.injEq] at e
      exact grp_ok p X t _ ⟨k, hk'⟩ e.1 e.2
    iapply (wp_rowProg d L src dst (rowVec t) _ _ (rowGrps (lanes p) t) X (permG p X) t hP hok _) $$ H
    iintro ⟨Hs, Hd⟩
    isplitl [Hs]; · iexact Hs
    unfold partly
    icases Hd with ⟨%f, Hd, %hf⟩
    iexists f; isplitl [Hd]; · iexact Hd
    ipureintro
    refine fun i hi => hf i ?_
    have h1 : (i 1 : ℕ) < 256 := (i 1).isLt
    rcases hi with hi | ⟨_, hi⟩
    · rcases Nat.lt_succ_iff_lt_or_eq.mp hi with hi | hi
      · exact .inl hi
      · exact .inr ⟨hi, by rw [hlen]; exact h1⟩
    · exact absurd hi (by omega)
  unfold chunkProg
  iintro ⟨Hs, %g, Hd⟩ HK
  iapply (Scf.wp_for_bind (Fr := frame) (wpE := wpE (defs₀ (F := F)) 𝒱₀ (thr d L) none) (Es := Set.univ) _ _ _ k0_t1_ok ()
    (chunkBody L src dst (lanes p)) (fun t _ => iprop(held d L src X ∗ partly d L dst (permG p X) t 0)) hbody) $$ [Hs Hd]
  · isplitl [Hs]; · iexact Hs
    unfold held partly
    icases Hd with ⟨%f, Hd, -⟩
    iexists f; isplitl [Hd]; · iexact Hd
    ipureintro
    rintro i (hi | ⟨_, hi⟩) <;> exact absurd hi (by omega)
  · iintro %_ ⟨Hs, Hd⟩
    iapply HK
    isplitl [Hs]; · iexact Hs
    unfold held partly
    icases Hd with ⟨%f, Hd, %hf⟩
    iexists f; isplitl [Hd]; · iexact Hd
    ipureintro
    funext i
    have h0 : (i 0 : ℕ) < 64 := (i 0).isLt
    exact hf i (.inl (lt_of_lt_of_eq h0 trips_eq.symm))

end Cert.Proof.Perm
-- ==== Proof.Body.lean ====
/-
  The subcore's program in the words of the algorithm: fetch the permutation, start the first two fetches, and take the chunks in
  turn on two pairs of buffers. The printed body is this program.
-/
module

public import proofs.«01_k».proof.Proof.Rows

@[expose] public section

noncomputable section

namespace Cert.Proof.Perm

open Cert.KernelIdeal Cert.KernelIdeal.Gen

open Idealize.ShloMosaic
open Idealize.SL.Sem

variable {F : FTy → Type} [FloatOps F]

/-! ## The buffers -/

abbrev xV : Memref sig .scVector .hbm S65536x256 .f32 := Memref.whole main_arg0_scv
abbrev pV : Memref sig .scVector .hbm S256 .i32 := Memref.whole main_arg1_scv
abbrev yV : Memref sig .scVector .hbm S65536x256 .f32 := Memref.whole main_v0_scv
abbrev pB : Memref sig .scVector .vmem S256 .i32 := Memref.whole cc0_scratch0
abbrev iB0 : Chunk := Memref.whole cc0_scratch1
abbrev iB1 : Chunk := Memref.whole cc0_scratch2
abbrev oB0 : Chunk := Memref.whole cc0_scratch3
abbrev oB1 : Chunk := Memref.whole cc0_scratch4

/-- Sixty-four whole rows of the input, and of the output. -/
abbrev InB (off : Fin 2 → ℕ) : Prop := ∀ a, off a + S64x256.size a ≤ S65536x256.size a
abbrev xs (off : Fin 2 → ℕ) (h : InB off) : Memref sig .scVector .hbm S64x256 .f32 :=
  xV.slice (Rect.unit (s := S65536x256) off S64x256.size h) (fun _ => rfl)
abbrev ys (off : Fin 2 → ℕ) (h : InB off) : Memref sig .scVector .hbm S64x256 .f32 :=
  yV.slice (Rect.unit (s := S65536x256) off S64x256.size h) (fun _ => rfl)

/-! ## The steps -/

variable (L : grid0.Coords)

/-- Start the fetch of sixty-four rows into `b`, and wait for it. -/
def inStart (b : Chunk) (s : DmaSem sig) (off : Fin 2 → ℕ) (h : InB off) : TProg F L PUnit :=
  Prog.lift (.enqueueDma (xs off h) (.here b) (.dma s) (View.wordExact_bits rfl) (View.wordExact_bits rfl) ⟨Or.inl rfl, trivial⟩)
def inWait (b : Chunk) (s : DmaSem sig) (off : Fin 2 → ℕ) (h : InB off) : TProg F L PUnit :=
  Prog.lift (.waitDma2 s (xs off h) b (View.wordExact_bits rfl) (View.wordExact_bits rfl))

/-- Start the write of sixty-four rows from `b`, and wait for it. -/
def outStart (b : Chunk) (s : DmaSem sig) (off : Fin 2 → ℕ) (h : InB off) : TProg F L PUnit :=
  Prog.lift (.enqueueDma b (.here (ys off h)) (.dma s) (View.wordExact_bits rfl) (View.wordExact_bits rfl) ⟨Or.inl rfl, trivial⟩)
def outWait (b : Chunk) (s : DmaSem sig) (off : Fin 2 → ℕ) (h : InB off) : TProg F L PUnit :=
  Prog.lift (.waitDma2 s b (ys off h) (View.wordExact_bits rfl) (View.wordExact_bits rfl))

/-- Fetch the permutation, and wait for it. -/
def permStart : TProg F L PUnit :=
  Prog.lift (.enqueueDma pV (.here pB) (.dma cc0_scoped0.sem) (View.wordExact_bits rfl) (View.wordExact_bits rfl) ⟨Or.inl rfl, trivial⟩)
def permWait : TProg F L PUnit :=
  Prog.lift (.waitDma2 cc0_scoped0.sem pV pB (View.wordExact_bits rfl) (View.wordExact_bits rfl))

theorem lane_inb (j : Fin 16) : ∀ a, (![16 * (j : ℕ)] : Fin 1 → ℕ) a + S16.size a ≤ S256.size a :=
  Fin.forall_fin_one.mpr (by show 16 * (j : ℕ) + 16 ≤ 256; omega)

/-- Load groups of lanes of the fetched permutation, one after another, and go on with their list. -/
def loads {α : Type} : List (Fin 16) → (List (IVec S16 32) → TProg F L α) → TProg F L α
  | [], k => k []
  | j :: js, k => do
    let v : Vec F S16 .i32 ← Prog.lift (.load pB (Rect.unit (s := S256) ![16 * (j : ℕ)] S16.size (lane_inb j)).toLoadRect (View.loadsAt_vmem h_S16))
    loads js fun vs => k (v :: vs)

/-- The groups of lanes a list holds. -/
def ofList (vs : List (IVec S16 32)) (j : Fin 16) : IVec S16 32 := vs.getD j fun _ => 0#32

/-- One chunk where nothing is under way on its out buffer; -/
def first (b o : Chunk) (si so : DmaSem sig) (V : Fin 16 → IVec S16 32) (f0 f1 f2 : Fin 2 → ℕ) (h0 : InB f0) (h1 : InB f1) (h2 : InB f2) {α : Type}
    (k : TProg F L α) : TProg F L α := do
  inWait L b si f0 h0
  chunkProg L b o V
  outStart L o so f1 h1
  inStart L b si f2 h2
  k

/-- one in the middle: the fetch of this chunk and the write two chunks back are awaited, the write of this chunk and the fetch two
    chunks on are started; -/
def mid (b o : Chunk) (si so : DmaSem sig) (V : Fin 16 → IVec S16 32) (f0 f1 f2 f3 : Fin 2 → ℕ) (h0 : InB f0) (h1 : InB f1) (h2 : InB f2)
    (h3 : InB f3) {α : Type} (k : TProg F L α) : TProg F L α := do
  inWait L b si f0 h0
  outWait L o so f1 h1
  chunkProg L b o V
  outStart L o so f2 h2
  inStart L b si f3 h3
  k

/-- and one with no chunk left to fetch. -/
def last (b o : Chunk) (si so : DmaSem sig) (V : Fin 16 → IVec S16 32) (f0 f1 f2 : Fin 2 → ℕ) (h0 : InB f0) (h1 : InB f1) (h2 : InB f2) {α : Type}
    (k : TProg F L α) : TProg F L α := do
  inWait L b si f0 h0
  outWait L o so f1 h1
  chunkProg L b o V
  outStart L o so f2 h2
  k

/-- Two chunks of the middle, one per pair of buffers. -/
def pairBody (V : Fin 16 → IVec S16 32) (t : Fin k0_t3_loop.trips) (_ : Unit) : TProg F L Unit :=
  mid L iB0 oB0 cc0_scratch5.sem cc0_scratch7.sem V (k0_off35 L t 0#32) (k0_off36 L t 0#32) (k0_off35 L t 0#32) (k0_off53 L t 0#32)
    (k0_off35_inb L t 0) (k0_off36_inb L t 0) (k0_off35_inb L t 0) (k0_off53_inb L t 0) <|
  mid L iB1 oB1 cc0_scratch6.sem cc0_scratch8.sem V (k0_off35 L t 1#32) (k0_off36 L t 1#32) (k0_off35 L t 1#32) (k0_off53 L t 1#32)
    (k0_off35_inb L t 1) (k0_off36_inb L t 1) (k0_off35_inb L t 1) (k0_off53_inb L t 1) <|
  pure ⟨⟩

/-- Everything after the permutation's lanes are loaded. -/
def chunksProg (V : Fin 16 → IVec S16 32) : TProg F L PUnit := do
  inStart L iB0 cc0_scratch5.sem (k0_off1 L 0#32) (k0_off1_inb L 0)
  inStart L iB1 cc0_scratch6.sem (k0_off1 L 64#32) (k0_off1_inb L 1)
  first L iB0 oB0 cc0_scratch5.sem cc0_scratch7.sem V (k0_off1 L 0#32) (k0_off18 L 0#32) (k0_off18 L 128#32)
    (k0_off1_inb L 0) (k0_off18_inb L 0) (k0_off18_inb L 1) <|
  first L iB1 oB1 cc0_scratch6.sem cc0_scratch8.sem V (k0_off18 L 64#32) (k0_off18 L 64#32) (k0_off18 L 192#32)
    (k0_off18_inb L 2) (k0_off18_inb L 2) (k0_off18_inb L 3) do
  Scf.Loop.for k0_t3_loop k0_t3_ok ⟨⟩ (pairBody L V)
  last L iB0 oB0 cc0_scratch5.sem cc0_scratch7.sem V (k0_off18 L 1920#32) (k0_off18 L 1792#32) (k0_off18 L 1920#32)
    (k0_off18_inb L 4) (k0_off18_inb L 5) (k0_off18_inb L 4) <|
  last L iB1 oB1 cc0_scratch6.sem cc0_scratch8.sem V (k0_off18 L 1984#32) (k0_off18 L 1856#32) (k0_off18 L 1984#32)
    (k0_off18_inb L 6) (k0_off18_inb L 7) (k0_off18_inb L 6) do
  outWait L oB0 cc0_scratch7.sem (k0_off18 L 1920#32) (k0_off18_inb L 4)
  outWait L oB1 cc0_scratch8.sem (k0_off18 L 1984#32) (k0_off18_inb L 6)
  pure ⟨⟩

/-- The subcore's program. -/
def bodyProg : TProg F L PUnit := do
  permStart L
  permWait L
  loads L [0, 1, 2, 3, 4, 5, 6, 7, 8, 9, 10, 11, 12, 13, 14, 15] fun vs => chunksProg L (ofList vs)

/-- The printed body at the buffers the launch passes it. -/
abbrev printed : TProg F L PUnit :=
  cc0__permute_body L xV (Memref.isWhole_whole _) pV (Memref.isWhole_whole _) yV (Memref.isWhole_whole _) pB (Memref.isWhole_whole _)
    iB0 (Memref.isWhole_whole _) iB1 (Memref.isWhole_whole _) oB0 (Memref.isWhole_whole _) oB1 (Memref.isWhole_whole _)
    cc0_scratch5 cc0_scratch6 cc0_scratch7 cc0_scratch8 cc0_scoped0

/-! ## The printed body is that program -/

/-- Two chunks of the middle as the printed body brackets them. -/
def pairBody' (V : Fin 16 → IVec S16 32) (t : Fin k0_t3_loop.trips) (_ : Unit) : TProg F L Unit := do
  let _ ← mid L iB0 oB0 cc0_scratch5.sem cc0_scratch7.sem V (k0_off35 L t 0#32) (k0_off36 L t 0#32) (k0_off35 L t 0#32) (k0_off53 L t 0#32)
    (k0_off35_inb L t 0) (k0_off36_inb L t 0) (k0_off35_inb L t 0) (k0_off53_inb L t 0) do
      inWait L iB1 cc0_scratch6.sem (k0_off35 L t 1#32) (k0_off35_inb L t 1)
      pure (⟨Scalar.addi (Scalar.muli (Scf.iv 1#32 1#32 t) 2#32) 1#32, 2#32⟩ : Σ' (_ : BitVec 32), BitVec 32)
  outWait L oB1 cc0_scratch8.sem (k0_off36 L t 1#32) (k0_off36_inb L t 1)
  chunkProg L iB1 oB1 V
  outStart L oB1 cc0_scratch8.sem (k0_off35 L t 1#32) (k0_off35_inb L t 1)
  inStart L iB1 cc0_scratch6.sem (k0_off53 L t 1#32) (k0_off53_inb L t 1)
  pure ⟨⟩

theorem pairBody_eq (V : Fin 16 → IVec S16 32) : pairBody' (F := F) L V = pairBody L V := by
  funext t u
  simp only [pairBody', pairBody, mid, bind_assoc, pure_bind]

/-- The first two chunks and the middle, as the printed body brackets them, -/
def head' (V : Fin 16 → IVec S16 32) : TProg F L PUnit :=
  first L iB0 oB0 cc0_scratch5.sem cc0_scratch7.sem V (k0_off1 L 0#32) (k0_off18 L 0#32) (k0_off18 L 128#32)
    (k0_off1_inb L 0) (k0_off18_inb L 0) (k0_off18_inb L 1) <|
  first L iB1 oB1 cc0_scratch6.sem cc0_scratch8.sem V (k0_off18 L 64#32) (k0_off18 L 64#32) (k0_off18 L 192#32)
    (k0_off18_inb L 2) (k0_off18_inb L 2) (k0_off18_inb L 3) do
  Scf.Loop.for k0_t3_loop k0_t3_ok ⟨⟩ (pairBody' L V)
  pure ⟨⟩

/-- the last two, -/
def tail' (V : Fin 16 → IVec S16 32) : TProg F L PUnit :=
  last L iB0 oB0 cc0_scratch5.sem cc0_scratch7.sem V (k0_off18 L 1920#32) (k0_off18 L 1792#32) (k0_off18 L 1920#32)
    (k0_off18_inb L 4) (k0_off18_inb L 5) (k0_off18_inb L 4) <|
  last L iB1 oB1 cc0_scratch6.sem cc0_scratch8.sem V (k0_off18 L 1984#32) (k0_off18 L 1856#32) (k0_off18 L 1984#32)
    (k0_off18_inb L 6) (k0_off18_inb L 7) (k0_off18_inb L 6) do
  outWait L oB0 cc0_scratch7.sem (k0_off18 L 1920#32) (k0_off18_inb L 4)
  pure ⟨⟩

/-- and all of it. -/
def chunks' (V : Fin 16 → IVec S16 32) : TProg F L PUnit := do
  inStart L iB0 cc0_scratch5.sem (k0_off1 L 0#32) (k0_off1_inb L 0)
  inStart L iB1 cc0_scratch6.sem (k0_off1 L 64#32) (k0_off1_inb L 1)
  head' L V
  tail' L V
  outWait L oB1 cc0_scratch8.sem (k0_off18 L 1984#32) (k0_off18_inb L 6)
  pure ⟨⟩

theorem chunks_eq (V : Fin 16 → IVec S16 32) : chunks' (F := F) L V = chunksProg L V := by
  simp only [chunks', chunksProg, head', tail', first, last, pairBody_eq, bind_assoc, pure_bind]

/-- The printed body is the program above. -/
theorem printed_eq : printed (F := F) L = bodyProg L := by
  have h : printed (F := F) L = (do
      permStart L
      permWait L
      loads L [0, 1, 2, 3, 4, 5, 6, 7, 8, 9, 10, 11, 12, 13, 14, 15] fun vs => chunks' L (ofList vs)) := rfl
  rw [h]; unfold bodyProg
  simp only [chunks_eq]

end Cert.Proof.Perm
-- ==== Proof.Chunks.lean ====
/-
  Which rows are whose: the arrays' 65536 rows are 1024 chunks of 64, subcore `L` taking 32 in a row; what the printed copies' offsets
  are in those terms, and what a chunk and the whole output hold.
-/
module

public import proofs.«01_k».proof.Proof.Body

@[expose] public section

noncomputable section

namespace Cert.Proof.Perm

open Cert.KernelIdeal Cert.KernelIdeal.Gen

open Idealize.ShloMosaic

variable {F : FTy → Type}

/-! ## Chunks -/

/-- The subcore's number among all thirty-two. -/
def wid (L : grid0.Coords) : ℕ := 2 * (L 1 : ℕ) + (L 0 : ℕ)

theorem wid_lt (L : grid0.Coords) : wid L < 32 := by
  have h0 : (L 0 : ℕ) < 2 := (L 0).isLt
  have h1 : (L 1 : ℕ) < 16 := (L 1).isLt
  unfold wid; omega

/-- Chunk `n` of an array: its rows `64 n … 64 n + 63`. -/
def chunkSet (n : ℕ) : Finset S65536x256.Idx := Finset.univ.filter fun i => (i 0 : ℕ) / 64 = n

theorem mem_chunkSet {n : ℕ} {i : S65536x256.Idx} : i ∈ chunkSet n ↔ (i 0 : ℕ) / 64 = n := by
  simp [chunkSet]

theorem chunkSet_disjoint {n n' : ℕ} (h : n ≠ n') : Disjoint (chunkSet n) (chunkSet n') :=
  Finset.disjoint_left.mpr fun _ hi hi' => h ((mem_chunkSet.mp hi).symm.trans (mem_chunkSet.mp hi'))

/-- The offsets are those of the subcore's `c`-th chunk. -/
def At (L : grid0.Coords) (off : Fin 2 → ℕ) (c : ℕ) : Prop := off 0 = (wid L * 32 + c) * 64 ∧ off 1 = 0

/-- The rows a copy names are the chunk's. -/
theorem rect_set (L : grid0.Coords) (off : Fin 2 → ℕ) (h : InB off) (c : ℕ) (hc : At L off c) :
    (Rect.unit (s := S65536x256) off S64x256.size h).set = chunkSet (wid L * 32 + c) := by
  obtain ⟨h0, h1⟩ := hc
  ext i
  have hi : (i 1 : ℕ) < 256 := (i 1).isLt
  rw [Rect.mem_set_unit, mem_chunkSet]
  constructor
  · intro hm
    have := hm 0
    rw [show S64x256.size 0 = 64 from rfl] at this
    omega
  · intro hm
    exact Fin.forall_fin_two.mpr ⟨by rw [show S64x256.size 0 = 64 from rfl]; omega, by rw [show S64x256.size 1 = 256 from rfl]; omega⟩

/-! ## The printed offsets -/

/-- The word of the subcore's first row. -/
theorem base_toNat (L : grid0.Coords) :
    (Scalar.muli (Scalar.addi (Scalar.muli (BitVec.ofNat 32 (L 1).val) 2#32) (BitVec.ofNat 32 (L 0).val)) 2048#32 : BitVec 32).toNat = wid L * 2048 := by
  have h0 : (L 0 : ℕ) < 2 := (L 0).isLt
  have h1 : (L 1 : ℕ) < 16 := (L 1).isLt
  simp only [Scalar.muli, Scalar.addi, IntOp.muli, IntOp.addi, BitVec.toNat_add, BitVec.toNat_mul, BitVec.toNat_ofNat, wid]
  omega

/-- A chunk's first row is the subcore's first row plus 64 for each chunk before it. -/
theorem at_of_word (L : grid0.Coords) (w : BitVec 32) (c : ℕ) (hc : c < 32) (hw : w.toNat = 64 * c) :
    At L ![(Scalar.addi (Scalar.muli (Scalar.addi (Scalar.muli (BitVec.ofNat 32 (L 1).val) 2#32) (BitVec.ofNat 32 (L 0).val)) 2048#32) w : BitVec 32).toNat, 0] c := by
  have hl := wid_lt L
  refine ⟨?_, rfl⟩
  show (Scalar.addi (Scalar.muli (Scalar.addi (Scalar.muli (BitVec.ofNat 32 (L 1).val) 2#32) (BitVec.ofNat 32 (L 0).val)) 2048#32) w : BitVec 32).toNat = _
  rw [Scalar.addi, IntOp.addi, BitVec.toNat_add, base_toNat, hw]
  omega

theorem at_off1 (L : grid0.Coords) (w : BitVec 32) (c : ℕ) (hc : c < 32) (hw : w.toNat = 64 * c) : At L (k0_off1 L w) c :=
  at_of_word L w c hc hw

theorem at_off18 (L : grid0.Coords) (w : BitVec 32) (c : ℕ) (hc : c < 32) (hw : w.toNat = 64 * c) : At L (k0_off18 L w) c :=
  at_of_word L w c hc hw

theorem trips3_eq : k0_t3_loop.trips = 14 := by decide

/-- In trip `t` of the middle, pair `b` of buffers holds chunk `2 (t + 1) + b`; -/
theorem at_off35 (L : grid0.Coords) (t : Fin k0_t3_loop.trips) (b : Fin 2) (c : ℕ) (hc : c = 2 * (t + 1) + b) :
    At L (k0_off35 L t (BitVec.ofNat 32 b)) c := by
  have ht : (t : ℕ) < 14 := lt_of_lt_of_eq t.isLt trips3_eq
  refine at_of_word L _ c (by omega) ?_
  subst hc; revert t b; decide

/-- the chunk two before it, -/
theorem at_off36 (L : grid0.Coords) (t : Fin k0_t3_loop.trips) (b : Fin 2) (c : ℕ) (hc : c = 2 * t + b) :
    At L (k0_off36 L t (BitVec.ofNat 32 b)) c := by
  have ht : (t : ℕ) < 14 := lt_of_lt_of_eq t.isLt trips3_eq
  refine at_of_word L _ c (by omega) ?_
  subst hc; revert t b; decide

/-- and the chunk two after it. -/
theorem at_off53 (L : grid0.Coords) (t : Fin k0_t3_loop.trips) (b : Fin 2) (c : ℕ) (hc : c = 2 * (t + 2) + b) :
    At L (k0_off53 L t (BitVec.ofNat 32 b)) c := by
  have ht : (t : ℕ) < 14 := lt_of_lt_of_eq t.isLt trips3_eq
  refine at_of_word L _ c (by omega) ?_
  subst hc; revert t b; decide

/-! ## What the arrays hold -/

/-- Index (`r`, `c`) of a whole array. -/
def ixA (r : Fin 65536) (c : Fin 256) : S65536x256.Idx := fun | 0 => r | 1 => c | ⟨_ + 2, h⟩ => absurd h (Nat.not_lt.2 (Nat.le_add_left _ _))

theorem ixA_self (i : S65536x256.Idx) : ixA (i 0) (i 1) = i := funext (Fin.forall_fin_two.mpr ⟨rfl, rfl⟩)

/-- The array's columns permuted: column `c` of the result is column `p c`. -/
def permA {α : Type} (p : S256.Idx → BitVec 32) (X : S65536x256.Idx → α) : S65536x256.Idx → α := fun i => X (ixA (i 0) (col (p (ix1 (i 1)))))

/-- Chunk `n` of an array. -/
def chunkOf {α : Type} (X : S65536x256.Idx → α) (n : ℕ) : S64x256.Idx → α :=
  fun i => X (ixA ⟨(n * 64 + (i 0 : ℕ)) % 65536, Nat.mod_lt _ (by decide)⟩ (i 1))

/-- Where a copy's index lies in the array. -/
theorem rect_emb (L : grid0.Coords) (off : Fin 2 → ℕ) (h : InB off) (c : ℕ) (hc : At L off c) (i : S64x256.Idx) :
    (Rect.unit (s := S65536x256) off S64x256.size h).emb i
      = ixA ⟨((wid L * 32 + c) * 64 + (i 0 : ℕ)) % 65536, Nat.mod_lt _ (by decide)⟩ (i 1) := by
  obtain ⟨h0, h1⟩ := hc
  have hb : off 0 + 64 ≤ 65536 := h 0
  have hi : (i 0 : ℕ) < 64 := (i 0).isLt
  refine funext (Fin.forall_fin_two.mpr ⟨Fin.ext ?_, Fin.ext ?_⟩)
  · show off 0 + 1 * (i 0 : ℕ) = ((wid L * 32 + c) * 64 + (i 0 : ℕ)) % 65536
    rw [← h0, Nat.mod_eq_of_lt (by omega), Nat.one_mul]
  · show off 1 + 1 * (i 1 : ℕ) = (i 1 : ℕ)
    rw [h1]; omega

/-- Permuting an array's columns permutes each chunk's. -/
theorem permA_emb {α : Type} (L : grid0.Coords) (off : Fin 2 → ℕ) (h : InB off) (c : ℕ) (hc : At L off c) (p : S256.Idx → BitVec 32)
    (X : S65536x256.Idx → α) (i : S64x256.Idx) :
    permA p X ((Rect.unit (s := S65536x256) off S64x256.size h).emb i) = permG p (chunkOf X (wid L * 32 + c)) i := by
  rw [rect_emb L off h c hc]; rfl

end Cert.Proof.Perm
-- ==== Proof.Copies.lean ====
/-
  The copies of a chunk: what starting one takes, what is under way between its start and its wait, and what the wait gives back.
-/
module

public import proofs.«01_k».proof.Proof.Chunks

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-- The counters the copies are told apart by. -/
abbrev EC : UEmb Counters (MT nD τ sig (HIx 1) (Elt F) ℕ UU ℕ) := countersEmb

variable (d : Dev nD) (L : grid0.Coords)

/-! ## What a subcore owns of the arrays -/

/-- The subcore's chunk `c` of the input, and of the output, holding what the array `X` has there. -/
def xPart (X : S65536x256.Idx → Elt F .f32) (c : ℕ) : sProp 𝕄 := xV.view.loc (thr d L) ↦[chunkSet (wid L * 32 + c)]{fullShare} X
def yPart (X : S65536x256.Idx → Elt F .f32) (c : ℕ) : sProp 𝕄 := yV.view.loc (thr d L) ↦[chunkSet (wid L * 32 + c)]{fullShare} X

/-- The subcore's chunks before `c`, and those from `c` on. -/
def before (Φ : ℕ → sProp 𝕄) (c : ℕ) : sProp 𝕄 := bigSep (Finset.range c) Φ
def from' (Φ : ℕ → sProp 𝕄) (c : ℕ) : sProp 𝕄 := bigSep (Finset.Ico c 32) Φ

theorem before_succ (Φ : ℕ → sProp 𝕄) (c : ℕ) : before Φ (c + 1) = iprop(Φ c ∗ before Φ c) := by
  unfold before
  rw [Finset.range_add_one, SparseCore.bigSep_insert' Finset.notMem_range_self]

theorem from_step (Φ : ℕ → sProp 𝕄) (c : ℕ) (hc : c < 32) : from' Φ c = iprop(Φ c ∗ from' Φ (c + 1)) := by
  unfold from'
  rw [← Finset.insert_Ico_add_one_left_eq_Ico hc, SparseCore.bigSep_insert' (by simp)]

theorem before_zero (Φ : ℕ → sProp 𝕄) : before Φ 0 = iprop(emp) := by unfold before; rw [Finset.range_zero]; rfl
theorem from_end (Φ : ℕ → sProp 𝕄) : from' Φ 32 = iprop(emp) := by unfold from'; rw [Finset.Ico_self]; rfl
theorem from_zero (Φ : ℕ → sProp 𝕄) : from' Φ 0 = before Φ 32 := by unfold from' before; rw [Finset.range_eq_Ico]

/-- What the subcore owes the launch, with its waits so far recorded; and that it may wait on its own semaphores meanwhile. -/
def ow (O : CellTallies nD τ sig (HIx 1)) (W : Waits sig (HIx 1)) : sProp 𝕄 :=
  iprop(Transfers.MayWaits (thr d L) none O ∗ ∃ W' : Waits sig (HIx 1), ⌜∀ p ∈ W', p ∈ W ∨ p.2 = none⌝ ∗ owes (thr d L) O W')

/-! ## What is under way -/

/-- The fetch of chunk `c` into `b`. -/
def inFl (X : S65536x256.Idx → Elt F .f32) (b : Chunk) (s : DmaSem sig) (c : ℕ) : sProp 𝕄 :=
  Transfers.Flight EC (thr d L) (.dma s) none b.view.dmaCredit iprop(held d L b (chunkOf X (wid L * 32 + c)) ∗ xPart d L X c)

/-- The write of chunk `c` from `o`, after which the output's chunk holds what `Y` has there. -/
def outFl (Y : S65536x256.Idx → Elt F .f32) (o : Chunk) (s : DmaSem sig) (c : ℕ) : sProp 𝕄 :=
  Transfers.Flight EC (thr d L) (.dma s) none ((yV.view.ref).dmaCredit S64x256 .f32) iprop(yPart d L Y c ∗ ∃ g, held d L o g)

/-- A slice of an array's rows, as a set of the array's indices, is the chunk; -/
theorem xs_set (off : Fin 2 → ℕ) (h : InB off) (c : ℕ) (hc : At L off c) : (xs off h).view.set = chunkSet (wid L * 32 + c) := by
  rw [show (xs off h).view.set = xV.view.setOn (Rect.unit (s := S65536x256) off S64x256.size h).set from View.set_slice _ _, rect_set L off h c hc]
  exact Finset.map_refl
theorem ys_set (off : Fin 2 → ℕ) (h : InB off) (c : ℕ) (hc : At L off c) : (ys off h).view.set = chunkSet (wid L * 32 + c) := by
  rw [show (ys off h).view.set = yV.view.setOn (Rect.unit (s := S65536x256) off S64x256.size h).set from View.set_slice _ _, rect_set L off h c hc]
  exact Finset.map_refl

/-- and what it reads is the chunk's contents. -/
theorem xs_read (off : Fin 2 → ℕ) (h : InB off) (c : ℕ) (hc : At L off c) (X : S65536x256.Idx → Elt F .f32) :
    (xs off h).view.read (Elt F) X = chunkOf X (wid L * 32 + c) := by
  funext i
  show X ((Rect.unit (s := S65536x256) off S64x256.size h).emb i) = _
  rw [rect_emb L off h c hc]; rfl

/-! ## The four steps -/

theorem wp_inStart (b : Chunk) (s : DmaSem sig) (off : Fin 2 → ℕ) (h : InB off) (c : ℕ) (hc : At L off c) (hc32 : c < 32)
    (X : S65536x256.Idx → Elt F .f32) {β : Type} (k : PUnit → TProg F L β) (Q : β → sProp 𝕄) :
    iprop((∃ g, held d L b g) ∗ semVal (thr d L, .dma s) 0 ∗ from' (xPart d L X) c)
      ⊢ iprop((iprop(inFl d L X b s c ∗ from' (xPart d L X) (c + 1)) -∗ tw d L (k ⟨⟩) Q) -∗ tw d L (inStart L b s off h >>= k) Q) := by
  rw [from_step _ c hc32]
  unfold held
  iintro ⟨⟨%g, %f, Hb, -⟩, Hv, Hx, HT⟩ HK
  unfold inStart xPart
  rw [← xs_set L off h c hc]
  iapply (Transfers.wp_dmaLocal (defs := defs₀ (F := F)) EC 𝒱₀ (thr d L) none (src := xs off h) (dst := b) (sm := .dma s) none b.view.dmaCredit rfl
    (View.dmaCredit_pos _ (by decide)) (Finset.Subset.refl _)) $$ [Hx Hb Hv]
  · isplitl [Hx]; · iexact Hx
    isplitl [Hb]; · iexact Hb
    iexact Hv
  iintro HF
  iapply HK
  isplitl [HF]
  · unfold inFl
    iapply (Transfers.Flight_mono EC (thr d L) ?_) $$ HF
    unfold held xPart
    rw [← xs_set L off h c hc]
    iintro ⟨Hb, Hx⟩
    isplitl [Hb]
    · iexists _; isplitl [Hb]; · iexact Hb
      ipureintro
      exact (View.read_write_univ _ _).trans (xs_read L off h c hc X)
    · iexact Hx
  · iexact HT

theorem wp_inWait (b : Chunk) (s : DmaSem sig) (off : Fin 2 → ℕ) (h : InB off) (c : ℕ)
    (X : S65536x256.Idx → Elt F .f32) (O : CellTallies nD τ sig (HIx 1)) (W : Waits sig (HIx 1)) {β : Type} (k : PUnit → TProg F L β) (Q : β → sProp 𝕄) :
    iprop(inFl d L X b s c ∗ before (xPart d L X) c ∗ ow d L O W)
      ⊢ iprop((iprop(held d L b (chunkOf X (wid L * 32 + c)) ∗ semVal (thr d L, .dma s) 0 ∗ before (xPart d L X) (c + 1) ∗ ow d L O W)
            -∗ tw d L (k ⟨⟩) Q) -∗ tw d L (inWait L b s off h >>= k) Q) := by
  rw [before_succ]
  unfold ow inFl inWait
  iintro ⟨HF, Hd, #Hmw, %W', %hW, HO⟩ HK
  iapply (Transfers.wp_waitLocalO (defs := defs₀ (F := F)) EC 𝒱₀ (thr d L) none (sem := s) (srcw := xs off h) (dstw := b) none rfl) $$ [HF HO]
  · isplitl [HF]; · iexact HF
    isplitl [HO]; · iexact HO
    iapply (Transfers.MayWaits.elim (.dma s)) $$ Hmw
  iintro ⟨⟨Hb, Hx⟩, Hv, HO⟩
  iapply HK
  isplitl [Hb]; · iexact Hb
  isplitl [Hv]; · iexact Hv
  isplitl [Hx Hd]
  · isplitl [Hx]; · iexact Hx
    iexact Hd
  isplitr; · iexact Hmw
  iexists _
  isplitr
  rotate_left
  · iexact HO
  ipureintro
  intro p hp
  rcases Finset.mem_insert.mp hp with rfl | hp
  · exact .inr rfl
  · exact hW p hp

theorem wp_outStart (o : Chunk) (s : DmaSem sig) (off : Fin 2 → ℕ) (h : InB off) (c : ℕ) (hc : At L off c) (hc32 : c < 32)
    (X Y₀ : S65536x256.Idx → Elt F .f32) (p : S256.Idx → BitVec 32) {β : Type} (k : PUnit → TProg F L β) (Q : β → sProp 𝕄) :
    iprop(held d L o (permG p (chunkOf X (wid L * 32 + c))) ∗ semVal (thr d L, .dma s) 0 ∗ from' (yPart d L Y₀) c)
      ⊢ iprop((iprop(outFl d L (permA p X) o s c ∗ from' (yPart d L Y₀) (c + 1)) -∗ tw d L (k ⟨⟩) Q) -∗ tw d L (outStart L o s off h >>= k) Q) := by
  rw [from_step _ c hc32]
  unfold held
  iintro ⟨⟨%f, Ho, %hf⟩, Hv, Hy, HT⟩ HK
  unfold outStart yPart
  rw [← ys_set L off h c hc]
  iapply (Transfers.wp_dmaLocal (defs := defs₀ (F := F)) EC 𝒱₀ (thr d L) none (src := o) (dst := ys off h) (sm := .dma s) none
    ((yV.view.ref).dmaCredit S64x256 .f32) rfl (View.dmaCredit_pos (ys off h).view (by decide)) (Finset.Subset.refl _)) $$ [Hy Ho Hv]
  · isplitl [Ho]; · iexact Ho
    isplitl [Hy]; · iexact Hy
    iexact Hv
  iintro HF
  iapply HK
  isplitl [HF]
  · unfold outFl
    iapply (Transfers.Flight_mono EC (thr d L) ?_) $$ HF
    unfold held yPart
    rw [← ys_set L off h c hc]
    iintro ⟨Hy, Ho⟩
    isplitl [Hy]
    · iapply (Entails.of_eq (pointsTo_congr fun i hi => ?_)) $$ Hy
      obtain ⟨x, -, rfl⟩ := Finset.mem_map.mp hi
      refine Eq.trans (View.write_emb_of_mem _ _ (Finset.mem_univ x)) (Eq.trans ?_ (permA_emb L off h c hc p X x).symm)
      exact congrFun hf x
    · iexists _; iexists _; isplitl [Ho]; · iexact Ho
      ipureintro; rfl
  · iexact HT

theorem wp_outWait (o : Chunk) (s : DmaSem sig) (off : Fin 2 → ℕ) (h : InB off) (c : ℕ)
    (Y : S65536x256.Idx → Elt F .f32) (O : CellTallies nD τ sig (HIx 1)) (W : Waits sig (HIx 1)) {β : Type} (k : PUnit → TProg F L β) (Q : β → sProp 𝕄) :
    iprop(outFl d L Y o s c ∗ before (yPart d L Y) c ∗ ow d L O W)
      ⊢ iprop((iprop((∃ g, held d L o g) ∗ semVal (thr d L, .dma s) 0 ∗ before (yPart d L Y) (c + 1) ∗ ow d L O W)
            -∗ tw d L (k ⟨⟩) Q) -∗ tw d L (outWait L o s off h >>= k) Q) := by
  rw [before_succ]
  unfold ow outFl outWait
  iintro ⟨HF, Hd, #Hmw, %W', %hW, HO⟩ HK
  iapply (Transfers.wp_waitLocalO (defs := defs₀ (F := F)) EC 𝒱₀ (thr d L) none (sem := s) (srcw := o) (dstw := ys off h) none rfl) $$ [HF HO]
  · isplitl [HF]; · iexact HF
    isplitl [HO]; · iexact HO
    iapply (Transfers.MayWaits.elim (.dma s)) $$ Hmw
  iintro ⟨⟨Hy, Ho⟩, Hv, HO⟩
  iapply HK
  isplitl [Ho]; · iexact Ho
  isplitl [Hv]; · iexact Hv
  isplitl [Hy Hd]
  · isplitl [Hy]; · iexact Hy
    iexact Hd
  isplitr; · iexact Hmw
  iexists _
  isplitr
  rotate_left
  · iexact HO
  ipureintro
  intro p hp
  rcases Finset.mem_insert.mp hp with rfl | hp
  · exact .inr rfl
  · exact hW p hp

end Cert.Proof.Perm
-- ==== Proof.Steps.lean ====
/-
  The subcore's program proved in order: the permutation's fetch and its lanes, a chunk at the start, in the middle and at the end, and
  all thirty-two chunks.
-/
module

public import proofs.«01_k».proof.Proof.Copies

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (L : grid0.Coords)

/-! ## The permutation -/

/-- A share of the permutation's array. -/
def pPart (q : PosShare TreeShare) (p : S256.Idx → BitVec 32) : sProp 𝕄 := pV.view.loc (thr d L) ↦[pV.view.set]{q} p

/-- The permutation is fetched. -/
theorem wp_perm (q : PosShare TreeShare) (p : S256.Idx → BitVec 32) (O : CellTallies nD τ sig (HIx 1)) (W : Waits sig (HIx 1)) {β : Type}
    (k : PUnit → TProg F L β) (Q : β → sProp 𝕄) :
    iprop(pPart d L q p ∗ (∃ g, held d L pB g) ∗ semVal (thr d L, .dma cc0_scoped0.sem) 0 ∗ ow d L O W)
      ⊢ iprop((iprop(pPart d L q p ∗ held d L pB p ∗ semVal (thr d L, .dma cc0_scoped0.sem) 0 ∗ ow d L O W) -∗ tw d L (k ⟨⟩) Q)
          -∗ tw d L (permStart L >>= fun _ => permWait L >>= k) Q) := by
  unfold held pPart permStart permWait ow
  iintro ⟨Hp, ⟨%g, %f, Hb, -⟩, Hv, #Hmw, %W', %hW, HO⟩ HK
  iapply (Transfers.wp_dmaLocal (defs := defs₀ (F := F)) EC 𝒱₀ (thr d L) none (src := pV) (dst := pB) (sm := .dma cc0_scoped0.sem) none
    pB.view.dmaCredit rfl (View.dmaCredit_pos _ (by decide)) (Finset.Subset.refl _)) $$ [Hp Hb Hv]
  · isplitl [Hp]; · iexact Hp
    isplitl [Hb]; · iexact Hb
    iexact Hv
  iintro HF
  iapply (Transfers.wp_waitLocalO (defs := defs₀ (F := F)) EC 𝒱₀ (thr d L) none (sem := cc0_scoped0.sem) (srcw := pV) (dstw := pB) none rfl) $$ [HF HO]
  · isplitl [HF]; · iexact HF
    isplitl [HO]; · iexact HO
    iapply (Transfers.MayWaits.elim (.dma cc0_scoped0.sem)) $$ Hmw
  iintro ⟨⟨Hb, Hp⟩, Hv, HO⟩
  iapply HK
  isplitl [Hp]; · iexact Hp
  isplitl [Hb]
  · iexists _; isplitl [Hb]; · iexact Hb
    ipureintro
    exact View.read_write_univ _ _
  isplitl [Hv]; · iexact Hv
  isplitr; · iexact Hmw
  iexists _
  isplitr
  rotate_left
  · iexact HO
  ipureintro
  intro p hp
  rcases Finset.mem_insert.mp hp with rfl | hp
  · exact .inr rfl
  · exact hW p hp

/-- Loads of its lanes give its lanes. -/
theorem wp_loads (p : S256.Idx → BitVec 32) {β : Type} (Q : β → sProp 𝕄) (js : List (Fin 16)) (k : List (IVec S16 32) → TProg F L β) :
    held d L pB p ⊢ iprop((held d L pB p -∗ tw d L (k (js.map (lanes p))) Q) -∗ tw d L (loads L js k) Q) := by
  induction js generalizing k with
  | nil =>
    iintro H HK
    iapply HK $$ H
  | cons j js ih =>
    unfold held
    iintro ⟨%f, H, %hf⟩ HK
    unfold loads
    iapply (wp_load (defs := defs₀ (F := F)) 𝒱₀ (thr d L) none Set.univ (m := pB) (S := pB.view.set) (q := fullShare) (f := f)
      (View.setOn_subset_set _ _)) $$ H
    iintro H
    have e : pB.view.readAt (Elt F) (Rect.unit (s := S256) ![16 * (j : ℕ)] S16.size (lane_inb j)).toLoadRect f = lanes p j := by
      funext x
      rw [View.readAt_apply, hf]
      refine congrArg p (funext (Fin.forall_fin_one.mpr (Fin.ext ?_)))
      show 16 * (j : ℕ) + 1 * (x 0 : ℕ) = 16 * j + (x 0 : ℕ)
      omega
    rw [e]
    iapply (ih fun vs => k (lanes p j :: vs)) $$ [H]
    · unfold held
      iexists f; isplitl [H]; · iexact H
      ipureintro; exact hf
    iexact HK

theorem ofList_lanes (p : S256.Idx → BitVec 32) :
    ofList ([0, 1, 2, 3, 4, 5, 6, 7, 8, 9, 10, 11, 12, 13, 14, 15].map (lanes p)) = lanes p := by
  funext j
  fin_cases j <;> rfl

/-! ## One chunk -/

variable (X Y₀ : S65536x256.Idx → Elt F .f32) (p : S256.Idx → BitVec 32)
variable (O : CellTallies nD τ sig (HIx 1)) (W : Waits sig (HIx 1))

/-- A chunk at the start. -/
theorem wp_first (hp : ∀ c, (p c).toNat < 256) (b o : Chunk) (si so : DmaSem sig) (f0 f1 f2 : Fin 2 → ℕ) (h0 : InB f0) (h1 : InB f1) (h2 : InB f2)
    (c : ℕ) (hc : c + 2 < 32) (a1 : At L f1 c) (a2 : At L f2 (c + 2)) {β : Type} (k : TProg F L β) (Q : β → sProp 𝕄) :
    iprop(inFl d L X b si c ∗ ((∃ g, held d L o g) ∗ semVal (thr d L, .dma so) 0)
        ∗ before (xPart d L X) c ∗ from' (xPart d L X) (c + 2) ∗ from' (yPart d L Y₀) c ∗ ow d L O W)
      ⊢ iprop((iprop(inFl d L X b si (c + 2) ∗ outFl d L (permA p X) o so c
              ∗ before (xPart d L X) (c + 1) ∗ from' (xPart d L X) (c + 3) ∗ from' (yPart d L Y₀) (c + 1) ∗ ow d L O W) -∗ tw d L k Q)
          -∗ tw d L (first L b o si so (lanes p) f0 f1 f2 h0 h1 h2 k) Q) := by
  unfold first
  iintro ⟨Hi, ⟨Ho, Hso⟩, Hxd, Hxt, Hyt, HO⟩ HK
  iapply (wp_inWait d L b si f0 h0 c X O W _ Q) $$ [Hi Hxd HO]
  · isplitl [Hi]; · iexact Hi
    isplitl [Hxd] <;> iassumption
  iintro ⟨Hb, Hsi, Hxd, HO⟩
  iapply (wp_chunk d L b o p hp _ _ Q) $$ [Hb Ho]
  · isplitl [Hb] <;> iassumption
  iintro ⟨Hb, Ho⟩
  iapply (wp_outStart d L o so f1 h1 c a1 (by omega) X Y₀ p _ Q) $$ [Ho Hso Hyt]
  · isplitl [Ho]; · iexact Ho
    isplitl [Hso] <;> iassumption
  iintro ⟨Ho, Hyt⟩
  iapply (wp_inStart d L b si f2 h2 (c + 2) a2 hc X _ Q) $$ [Hb Hsi Hxt]
  · isplitl [Hb]; · iexists _; iexact Hb
    isplitl [Hsi] <;> iassumption
  iintro ⟨Hi, Hxt⟩
  iapply HK
  isplitl [Hi]; · iexact Hi
  isplitl [Ho]; · iexact Ho
  isplitl [Hxd]; · iexact Hxd
  isplitl [Hxt]; · iexact Hxt
  isplitl [Hyt] <;> iassumption

/-- The arrays' chunks while chunk `c + 2` is taken in the middle: `c` is being written and `c + 3` being fetched. -/
def rest (c : ℕ) : sProp 𝕄 :=
  iprop(before (xPart d L X) (c + 2) ∗ from' (xPart d L X) (c + 4) ∗ before (yPart d L (permA p X)) c ∗ from' (yPart d L Y₀) (c + 2) ∗ ow d L O W)

/-- A chunk in the middle. -/
theorem wp_mid (hp : ∀ c, (p c).toNat < 256) (b o : Chunk) (si so : DmaSem sig) (f0 f1 f2 f3 : Fin 2 → ℕ) (h0 : InB f0) (h1 : InB f1) (h2 : InB f2)
    (h3 : InB f3) (c : ℕ) (hc : c + 4 < 32) (a2 : At L f2 (c + 2)) (a3 : At L f3 (c + 4)) {β : Type} (k : TProg F L β) (Q : β → sProp 𝕄) :
    iprop(inFl d L X b si (c + 2) ∗ outFl d L (permA p X) o so c ∗ rest d L X Y₀ p O W c)
      ⊢ iprop((iprop(inFl d L X b si (c + 4) ∗ outFl d L (permA p X) o so (c + 2) ∗ rest d L X Y₀ p O W (c + 1)) -∗ tw d L k Q)
          -∗ tw d L (mid L b o si so (lanes p) f0 f1 f2 f3 h0 h1 h2 h3 k) Q) := by
  unfold mid rest
  iintro ⟨Hi, Ho, Hxd, Hxt, Hyd, Hyt, HO⟩ HK
  iapply (wp_inWait d L b si f0 h0 (c + 2) X O W _ Q) $$ [Hi Hxd HO]
  · isplitl [Hi]; · iexact Hi
    isplitl [Hxd] <;> iassumption
  iintro ⟨Hb, Hsi, Hxd, HO⟩
  iapply (wp_outWait d L o so f1 h1 c (permA p X) O W _ Q) $$ [Ho Hyd HO]
  · isplitl [Ho]; · iexact Ho
    isplitl [Hyd] <;> iassumption
  iintro ⟨Ho, Hso, Hyd, HO⟩
  iapply (wp_chunk d L b o p hp _ _ Q) $$ [Hb Ho]
  · isplitl [Hb] <;> iassumption
  iintro ⟨Hb, Ho⟩
  iapply (wp_outStart d L o so f2 h2 (c + 2) a2 (by omega) X Y₀ p _ Q) $$ [Ho Hso Hyt]
  · isplitl [Ho]; · iexact Ho
    isplitl [Hso] <;> iassumption
  iintro ⟨Ho, Hyt⟩
  iapply (wp_inStart d L b si f3 h3 (c + 4) a3 hc X _ Q) $$ [Hb Hsi Hxt]
  · isplitl [Hb]; · iexists _; iexact Hb
    isplitl [Hsi] <;> iassumption
  iintro ⟨Hi, Hxt⟩
  iapply HK
  isplitl [Hi]; · iexact Hi
  isplitl [Ho]; · iexact Ho
  isplitl [Hxd]; · iexact Hxd
  isplitl [Hxt]; · iexact Hxt
  isplitl [Hyd]; · iexact Hyd
  isplitl [Hyt] <;> iassumption

/-- A chunk at the end. -/
theorem wp_last (hp : ∀ c, (p c).toNat < 256) (b o : Chunk) (si so : DmaSem sig) (f0 f1 f2 : Fin 2 → ℕ) (h0 : InB f0) (h1 : InB f1) (h2 : InB f2)
    (c : ℕ) (hc : c + 2 < 32) (a2 : At L f2 (c + 2)) {β : Type} (k : TProg F L β) (Q : β → sProp 𝕄) :
    iprop(inFl d L X b si (c + 2) ∗ outFl d L (permA p X) o so c
        ∗ before (xPart d L X) (c + 2) ∗ before (yPart d L (permA p X)) c ∗ from' (yPart d L Y₀) (c + 2) ∗ ow d L O W)
      ⊢ iprop((iprop(((∃ g, held d L b g) ∗ semVal (thr d L, .dma si) 0) ∗ outFl d L (permA p X) o so (c + 2)
              ∗ before (xPart d L X) (c + 3) ∗ before (yPart d L (permA p X)) (c + 1) ∗ from' (yPart d L Y₀) (c + 3) ∗ ow d L O W) -∗ tw d L k Q)
          -∗ tw d L (last L b o si so (lanes p) f0 f1 f2 h0 h1 h2 k) Q) := by
  unfold last
  iintro ⟨Hi, Ho, Hxd, Hyd, Hyt, HO⟩ HK
  iapply (wp_inWait d L b si f0 h0 (c + 2) X O W _ Q) $$ [Hi Hxd HO]
  · isplitl [Hi]; · iexact Hi
    isplitl [Hxd] <;> iassumption
  iintro ⟨Hb, Hsi, Hxd, HO⟩
  iapply (wp_outWait d L o so f1 h1 c (permA p X) O W _ Q) $$ [Ho Hyd HO]
  · isplitl [Ho]; · iexact Ho
    isplitl [Hyd] <;> iassumption
  iintro ⟨Ho, Hso, Hyd, HO⟩
  iapply (wp_chunk d L b o p hp _ _ Q) $$ [Hb Ho]
  · isplitl [Hb] <;> iassumption
  iintro ⟨Hb, Ho⟩
  iapply (wp_outStart d L o so f2 h2 (c + 2) a2 hc X Y₀ p _ Q) $$ [Ho Hso Hyt]
  · isplitl [Ho]; · iexact Ho
    isplitl [Hso] <;> iassumption
  iintro ⟨Ho, Hyt⟩
  iapply HK
  isplitl [Hb Hsi]
  · isplitl [Hb]; · iexists _; iexact Hb
    iexact Hsi
  isplitl [Ho]; · iexact Ho
  isplitl [Hxd]; · iexact Hxd
  isplitl [Hyd]; · iexact Hyd
  isplitl [Hyt] <;> iassumption

/-! ## All of them -/

/-- A pair of buffers with nothing under way. -/
def idle (b o : Chunk) (si so : DmaSem sig) : sProp 𝕄 :=
  iprop(((∃ g, held d L b g) ∗ semVal (thr d L, .dma si) 0) ∗ (∃ g, held d L o g) ∗ semVal (thr d L, .dma so) 0)

/-- Before the middle's trip `t`. -/
def inv (t : ℕ) : sProp 𝕄 :=
  iprop((inFl d L X iB0 cc0_scratch5.sem (2 * t + 2) ∗ outFl d L (permA p X) oB0 cc0_scratch7.sem (2 * t))
    ∗ (inFl d L X iB1 cc0_scratch6.sem (2 * t + 3) ∗ outFl d L (permA p X) oB1 cc0_scratch8.sem (2 * t + 1)) ∗ rest d L X Y₀ p O W (2 * t))

/-- One trip of the middle. -/
theorem wp_pair (hp : ∀ c, (p c).toNat < 256) (t : Fin k0_t3_loop.trips) (u : Unit) :
    inv d L X Y₀ p O W t ⊢ tw d L (pairBody L (lanes p) t u) fun _ => inv d L X Y₀ p O W (t + 1) := by
  have ht : (t : ℕ) < 14 := lt_of_lt_of_eq t.isLt trips3_eq
  unfold inv pairBody
  iintro ⟨⟨Hi0, Ho0⟩, ⟨Hi1, Ho1⟩, HR⟩
  iapply (wp_mid d L X Y₀ p O W hp iB0 oB0 cc0_scratch5.sem cc0_scratch7.sem _ _ _ _ _ _ _ _ (2 * t) (by omega)
    (at_off35 L t 0 _ (by show _ = _ + 0; omega)) (at_off53 L t 0 _ (by show _ = _ + 0; omega)) _ _) $$ [Hi0 Ho0 HR]
  · isplitl [Hi0]; · iexact Hi0
    isplitl [Ho0] <;> iassumption
  iintro ⟨Hi0, Ho0, HR⟩
  iapply (wp_mid d L X Y₀ p O W hp iB1 oB1 cc0_scratch6.sem cc0_scratch8.sem _ _ _ _ _ _ _ _ (2 * t + 1) (by omega)
    (at_off35 L t 1 _ (by show _ = _ + 1; omega)) (at_off53 L t 1 _ (by show _ = _ + 1; omega)) _ _) $$ [Hi1 Ho1 HR]
  · isplitl [Hi1]; · iexact Hi1
    isplitl [Ho1] <;> iassumption
  iintro ⟨Hi1, Ho1, HR⟩
  rw [show tw d L (pure ⟨⟩ : TProg F L PUnit) = fun Q => iprop(|={Set.univ}[frame]=> Q ⟨⟩) from funext fun Q => wp_pure _ _ _ _ _]
  imodintro
  rw [show 2 * ((t : ℕ) + 1) = 2 * t + 1 + 1 from by omega]
  isplitl [Hi0 Ho0]
  · isplitl [Hi0] <;> iassumption
  isplitl [Hi1 Ho1]
  · isplitl [Hi1] <;> iassumption
  iexact HR

/-- After the middle's last trip. -/
theorem inv_end : inv d L X Y₀ p O W k0_t3_loop.trips
    ⊢ iprop((inFl d L X iB0 cc0_scratch5.sem 30 ∗ outFl d L (permA p X) oB0 cc0_scratch7.sem 28)
      ∗ (inFl d L X iB1 cc0_scratch6.sem 31 ∗ outFl d L (permA p X) oB1 cc0_scratch8.sem 29)
      ∗ before (xPart d L X) 30 ∗ from' (xPart d L X) 32 ∗ before (yPart d L (permA p X)) 28 ∗ from' (yPart d L Y₀) 30 ∗ ow d L O W) := by
  rw [trips3_eq]; exact Entails.refl

/-- The subcore's chunks of the output hold the permuted input, and everything else is as it was. -/
theorem wp_chunks (hp : ∀ c, (p c).toNat < 256) {Q : PUnit → sProp 𝕄} :
    iprop(idle d L iB0 oB0 cc0_scratch5.sem cc0_scratch7.sem ∗ idle d L iB1 oB1 cc0_scratch6.sem cc0_scratch8.sem
        ∗ from' (xPart d L X) 0 ∗ from' (yPart d L Y₀) 0 ∗ ow d L O W)
      ⊢ iprop((iprop(idle d L iB0 oB0 cc0_scratch5.sem cc0_scratch7.sem ∗ idle d L iB1 oB1 cc0_scratch6.sem cc0_scratch8.sem
            ∗ from' (xPart d L X) 0 ∗ from' (yPart d L (permA p X)) 0 ∗ ow d L O W) -∗ Q ⟨⟩)
          -∗ tw d L (chunksProg L (lanes p)) Q) := by
  unfold idle
  iintro ⟨⟨⟨Hb0, Hsi0⟩, Ho0⟩, ⟨⟨Hb1, Hsi1⟩, Ho1⟩, Hxt, Hyt, HO⟩ HK
  unfold chunksProg
  iapply (wp_inStart d L iB0 _ _ _ 0 (at_off1 L 0#32 0 (by decide) rfl) (by decide) X _ Q) $$ [Hb0 Hsi0 Hxt]
  · isplitl [Hb0]; · iexact Hb0
    isplitl [Hsi0] <;> iassumption
  iintro ⟨Hi0, Hxt⟩
  iapply (wp_inStart d L iB1 _ _ _ 1 (at_off1 L 64#32 1 (by decide) rfl) (by decide) X _ Q) $$ [Hb1 Hsi1 Hxt]
  · isplitl [Hb1]; · iexact Hb1
    isplitl [Hsi1] <;> iassumption
  iintro ⟨Hi1, Hxt⟩
  iapply (wp_first d L X Y₀ p O W hp iB0 oB0 _ _ _ _ _ _ _ _ 0 (by decide) (at_off18 L 0#32 0 (by decide) rfl)
    (at_off18 L 128#32 2 (by decide) rfl) _ Q) $$ [Hi0 Ho0 Hxt Hyt HO]
  · isplitl [Hi0]; · iexact Hi0
    isplitl [Ho0]; · iexact Ho0
    isplitr; · rw [before_zero]; iempintro
    isplitl [Hxt]; · iexact Hxt
    isplitl [Hyt] <;> iassumption
  iintro ⟨Hi0, Ho0, Hxd, Hxt, Hyt, HO⟩
  iapply (wp_first d L X Y₀ p O W hp iB1 oB1 _ _ _ _ _ _ _ _ 1 (by decide) (at_off18 L 64#32 1 (by decide) rfl)
    (at_off18 L 192#32 3 (by decide) rfl) _ Q) $$ [Hi1 Ho1 Hxd Hxt Hyt HO]
  · isplitl [Hi1]; · iexact Hi1
    isplitl [Ho1]; · iexact Ho1
    isplitl [Hxd]; · iexact Hxd
    isplitl [Hxt]; · iexact Hxt
    isplitl [Hyt] <;> iassumption
  iintro ⟨Hi1, Ho1, Hxd, Hxt, Hyt, HO⟩
  iapply (Scf.wp_for_bind (Fr := frame) (wpE := wpE (defs₀ (F := F)) 𝒱₀ (thr d L) none) (Es := Set.univ) _ _ _ k0_t3_ok ()
    (pairBody L (lanes p)) (fun t _ => inv d L X Y₀ p O W t) (wp_pair d L X Y₀ p O W hp)) $$ [Hi0 Ho0 Hi1 Ho1 Hxd Hxt Hyt HO]
  · unfold inv rest
    isplitl [Hi0 Ho0]
    · isplitl [Hi0] <;> iassumption
    isplitl [Hi1 Ho1]
    · isplitl [Hi1] <;> iassumption
    isplitl [Hxd]; · iexact Hxd
    isplitl [Hxt]; · iexact Hxt
    isplitr; · rw [before_zero]; iempintro
    isplitl [Hyt] <;> iassumption
  iintro %_ H
  ihave H' := (inv_end d L X Y₀ p O W) $$ H
  icases H' with ⟨⟨Hi0, Ho0⟩, ⟨Hi1, Ho1⟩, Hxd, -, Hyd, Hyt, HO⟩
  iapply (wp_last d L X Y₀ p O W hp iB0 oB0 _ _ _ _ _ _ _ _ 28 (by decide) (at_off18 L 1920#32 30 (by decide) rfl) _ Q) $$ [Hi0 Ho0 Hxd Hyd Hyt HO]
  · isplitl [Hi0]; · iexact Hi0
    isplitl [Ho0]; · iexact Ho0
    isplitl [Hxd]; · iexact Hxd
    isplitl [Hyd]; · iexact Hyd
    isplitl [Hyt] <;> iassumption
  iintro ⟨Hb0, Ho0, Hxd, Hyd, Hyt, HO⟩
  iapply (wp_last d L X Y₀ p O W hp iB1 oB1 _ _ _ _ _ _ _ _ 29 (by decide) (at_off18 L 1984#32 31 (by decide) rfl) _ Q) $$ [Hi1 Ho1 Hxd Hyd Hyt HO]
  · isplitl [Hi1]; · iexact Hi1
    isplitl [Ho1]; · iexact Ho1
    isplitl [Hxd]; · iexact Hxd
    isplitl [Hyd]; · iexact Hyd
    isplitl [Hyt] <;> iassumption
  iintro ⟨Hb1, Ho1, Hxd, Hyd, -, HO⟩
  iapply (wp_outWait d L oB0 _ _ _ 30 (permA p X) O W _ Q) $$ [Ho0 Hyd HO]
  · isplitl [Ho0]; · iexact Ho0
    isplitl [Hyd] <;> iassumption
  iintro ⟨Ho0, Hso0, Hyd, HO⟩
  iapply (wp_outWait d L oB1 _ _ _ 31 (permA p X) O W _ Q) $$ [Ho1 Hyd HO]
  · isplitl [Ho1]; · iexact Ho1
    isplitl [Hyd] <;> iassumption
  iintro ⟨Ho1, Hso1, Hyd, HO⟩
  rw [show tw d L (pure ⟨⟩ : TProg F L PUnit) Q = iprop(|={Set.univ}[frame]=> Q ⟨⟩) from wp_pure _ _ _ _ _]
  imodintro
  iapply HK
  rw [from_zero, from_zero]
  isplitl [Hb0 Ho0 Hso0]
  · isplitl [Hb0]; · iexact Hb0
    isplitl [Ho0] <;> iassumption
  isplitl [Hb1 Ho1 Hso1]
  · isplitl [Hb1]; · iexact Hb1
    isplitl [Ho1] <;> iassumption
  isplitl [Hxd]; · iexact Hxd
  isplitl [Hyd] <;> iassumption

/-- The subcore's whole program. -/
theorem wp_body (q : PosShare TreeShare) (hp : ∀ c, (p c).toNat < 256) {Q : PUnit → sProp 𝕄} :
    iprop((pPart d L q p ∗ (∃ g, held d L pB g) ∗ semVal (thr d L, .dma cc0_scoped0.sem) 0)
        ∗ idle d L iB0 oB0 cc0_scratch5.sem cc0_scratch7.sem ∗ idle d L iB1 oB1 cc0_scratch6.sem cc0_scratch8.sem
        ∗ from' (xPart d L X) 0 ∗ from' (yPart d L Y₀) 0 ∗ ow d L O W)
      ⊢ iprop((iprop((pPart d L q p ∗ (∃ g, held d L pB g) ∗ semVal (thr d L, .dma cc0_scoped0.sem) 0)
            ∗ idle d L iB0 oB0 cc0_scratch5.sem cc0_scratch7.sem ∗ idle d L iB1 oB1 cc0_scratch6.sem cc0_scratch8.sem
            ∗ from' (xPart d L X) 0 ∗ from' (yPart d L (permA p X)) 0 ∗ ow d L O W) -∗ Q ⟨⟩)
          -∗ tw d L (printed (F := F) L) Q) := by
  rw [printed_eq]
  unfold bodyProg
  iintro ⟨⟨Hp, Hb, Hv⟩, HI0, HI1, Hx, Hy, HO⟩ HK
  iapply (wp_perm d L q p O W _ Q) $$ [Hp Hb Hv HO]
  · isplitl [Hp]; · iexact Hp
    isplitl [Hb]; · iexact Hb
    isplitl [Hv] <;> iassumption
  iintro ⟨Hp, Hb, Hv, HO⟩
  iapply (wp_loads d L p Q _ _) $$ Hb
  iintro Hb
  rw [ofList_lanes]
  iapply (wp_chunks d L X Y₀ p O W hp) $$ [HI0 HI1 Hx Hy HO]
  · isplitl [HI0]; · iexact HI0
    isplitl [HI1]; · iexact HI1
    isplitl [Hx]; · iexact Hx
    isplitl [Hy] <;> iassumption
  iintro ⟨HI0, HI1, Hx, Hy, HO⟩
  iapply HK
  isplitl [Hp Hb Hv]
  · isplitl [Hp]; · iexact Hp
    isplitl [Hb]; · iexists _; iexact Hb
    iexact Hv
  isplitl [HI0]; · iexact HI0
  isplitl [HI1]; · iexact HI1
  isplitl [Hx]; · iexact Hx
  isplitl [Hy] <;> iassumption

end Cert.Proof.Perm
-- ==== Proof.Tile.lean ====
/-
  The call's parts and what each is handed: a SparseCore its half of the chunks, a vector subcore its thirty-two and a share of the
  permutation; and a subcore's run on them.
-/
module

public import proofs.«01_k».proof.Proof.Steps

@[expose] public section

noncomputable section

namespace Cert.Proof.Perm

open Cert.KernelIdeal Cert.KernelIdeal.Gen

open Idealize.ShloMosaic
open Idealize.ShloMosaic.SparseCore (S V T)
open Idealize.ShloMosaic.SparseCore.Cfg (HIx Pay tileRest ownBufs ownSems0 ownCells ownRefs mem_ownCells mem_ownRefs_of_owner)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

/-! ## The arrays at launch -/

variable (m : (ℓ : Loc nD τ sig) → Buf (Elt F) ℓ)

abbrev xLoc (d : Dev nD) : Loc nD τ sig := (SparseCore.T d).loc main_arg0
abbrev pLoc (d : Dev nD) : Loc nD τ sig := (SparseCore.T d).loc main_arg1
abbrev yLoc (d : Dev nD) : Loc nD τ sig := (SparseCore.T d).loc main_v0

/-- The input, the permutation's words and the output's first contents on device `d`. -/
def xM (d : Dev nD) : S65536x256.Idx → Elt F .f32 := m (xLoc d)
def pM (d : Dev nD) : S256.Idx → BitVec 32 := m (pLoc d)
def yM (d : Dev nD) : S65536x256.Idx → Elt F .f32 := m (yLoc d)

/-- What the call leaves in the output: the input's columns permuted. -/
def yEnd (d : Dev nD) : S65536x256.Idx → Elt F .f32 := permA (pM m d) (xM m d)

/-- Every word of the permutation names a column. -/
def InRange : Prop := ∀ d c, (pM m d c).toNat < 256

/-! ## What is handed out -/

/-- The grid point of SparseCore `c`'s vector subcore `s`. -/
def coordsV (c : Fin 2) (s : Fin 16) : grid0.Coords :=
  fun | 0 => c | 1 => s | ⟨_ + 2, h⟩ => absurd h (Nat.not_lt.2 (Nat.le_add_left _ _))

/-- SparseCore `c`'s share of the permutation, and its subcore `s`'s. -/
abbrev coreShare (c : ℕ) : PosShare TreeShare := Transfers.shareTokN fullShare c
abbrev tileShare (c s : ℕ) : PosShare TreeShare := Transfers.shareTokN (coreShare c) s

/-- A subcore's part of the arrays, the output's holding what `Y` has there. -/
def part (d : Dev nD) (L : grid0.Coords) (Y : S65536x256.Idx → Elt F .f32) : sProp 𝕄 :=
  iprop(from' (xPart d L (xM m d)) 0 ∗ from' (yPart d L Y) 0 ∗ pPart d L (tileShare (L 0) (L 1)) (pM m d))

/-- A SparseCore's: its sixteen subcores' chunks, and its share of the permutation. -/
def corePart (d : Dev nD) (c : Fin 2) (Y : S65536x256.Idx → Elt F .f32) : sProp 𝕄 :=
  iprop((bigSep Finset.univ fun s : Fin 16 => from' (xPart d (coordsV c s) (xM m d)) 0)
    ∗ (bigSep Finset.univ fun s : Fin 16 => from' (yPart d (coordsV c s) Y) 0) ∗ pLoc d ↦{coreShare c} m (pLoc d))

instance part_storable (d : Dev nD) (L : grid0.Coords) (Y : S65536x256.Idx → Elt F .f32) : BI.Storable (upEmb : UEmb _ 𝕄) (part m d L Y) := by
  unfold part from' xPart yPart pPart; infer_instance
instance corePart_storable (d : Dev nD) (c : Fin 2) (Y : S65536x256.Idx → Elt F .f32) : BI.Storable (upEmb : UEmb _ 𝕄) (corePart m d c Y) := by
  unfold corePart from' xPart yPart; infer_instance

theorem nCore_zero : (K (F := F)).nCore 0 = 2 := rfl
theorem nSub_zero : (K (F := F)).nSub 0 = 16 := rfl

/-- The call's payloads: out with the output as it was, back with it permuted. -/
def P : (K (F := F)).Pay (nD := nD) (Val := Elt F) (Name := ℕ) (U := UU) where
  st := fun q d c => match q with | 0 => corePart m d (Fin.cast nCore_zero c) (yM m d)
  dn := fun q d c => match q with | 0 => corePart m d (Fin.cast nCore_zero c) (yEnd m d)
  go := fun q d c s => match q with | 0 => part m d (coordsV (Fin.cast nCore_zero c) (Fin.cast nSub_zero s)) (yM m d)
  td := fun q d c s => match q with | 0 => part m d (coordsV (Fin.cast nCore_zero c) (Fin.cast nSub_zero s)) (yEnd m d)
  x := fun _ _ => iprop(emp)

instance P_storable : (P (F := F) m).IsStorable where
  st q d c := by match q with | 0 => exact corePart_storable _ _ _ _
  dn q d c := by match q with | 0 => exact corePart_storable _ _ _ _
  go q d c i := by match q with | 0 => exact part_storable _ _ _ _
  td q d c i := by match q with | 0 => exact part_storable _ _ _ _

/-! ## A subcore's own buffers and semaphores -/

variable (d : Dev nD) (L : grid0.Coords)

/-- The five buffers the program uses, and its five semaphores. -/
def bufsV : Finset (Ref sig .scVector) := {cc0_scratch0, cc0_scratch1, cc0_scratch2, cc0_scratch3, cc0_scratch4}
def semsV : Finset (DmaSem sig) := {cc0_scoped0.sem, cc0_scratch5.sem, cc0_scratch6.sem, cc0_scratch7.sem, cc0_scratch8.sem}

/-- The same as the launch names them. -/
def refsV : Finset (DevRef τ sig) := bufsV.map ⟨fun r => (thr d L).2.devRef r, Proc.devRef_injective _⟩
def cellsV : Finset (GSem nD τ sig) := semsV.map ⟨fun s => (thr d L, .dma s), fun s s' h => by simpa using h⟩

/-- A whole buffer at some contents is a whole buffer. -/
theorem held_whole (r : Ref sig .scVector) :
    iprop(∃ g, held d L (Memref.whole r) g) ⊣⊢ (iprop(∃ f, (thr d L).loc r ↦{fullShare} f) : sProp 𝕄) := by
  unfold held
  simp only [Memref.view_whole, View.set_whole]
  constructor
  · iintro ⟨%g, %f, H, -⟩
    iexists f; iexact H
  · iintro ⟨%f, H⟩
    iexists _; iexists f; isplitl [H]; · iexact H
    ipureintro; rfl

theorem bigSep_bufsV (Φ : Ref sig .scVector → sProp 𝕄) :
    bigSep bufsV Φ = iprop(Φ cc0_scratch0 ∗ Φ cc0_scratch1 ∗ Φ cc0_scratch2 ∗ Φ cc0_scratch3 ∗ Φ cc0_scratch4) := by
  unfold bufsV
  rw [SparseCore.bigSep_insert' (by decide), SparseCore.bigSep_insert' (by decide), SparseCore.bigSep_insert' (by decide),
    SparseCore.bigSep_insert' (by decide), bigSep_singleton]

theorem ownBufs_V :
    (ownBufs (thr d L) : sProp 𝕄)
      = iprop(((∃ f, (thr d L).loc cc0_scratch0 ↦{fullShare} f) ∗ (∃ f, (thr d L).loc cc0_scratch1 ↦{fullShare} f)
            ∗ (∃ f, (thr d L).loc cc0_scratch2 ↦{fullShare} f) ∗ (∃ f, (thr d L).loc cc0_scratch3 ↦{fullShare} f)
            ∗ (∃ f, (thr d L).loc cc0_scratch4 ↦{fullShare} f))
          ∗ bigSep (ownRefs (thr d L).2 \ refsV d L) fun b => iprop(∃ f, ((d, b) : Loc nD τ sig) ↦{fullShare} f)) := by
  unfold SparseCore.Cfg.ownBufs
  rw [SparseCore.bigSep_sdiff_split' (t := refsV d L) fun b hb => by
    obtain ⟨r, hr, rfl⟩ := Finset.mem_map.mp hb
    simp only [bufsV, Finset.mem_insert, Finset.mem_singleton] at hr
    rcases hr with rfl | rfl | rfl | rfl | rfl <;> exact mem_ownRefs_of_owner rfl]
  congr 1
  unfold refsV
  rw [BI.bigSep_map]
  exact bigSep_bufsV fun r => iprop(∃ f, (thr d L).loc r ↦{fullShare} f)

theorem ownSems0_V :
    (ownSems0 (thr d L) : sProp 𝕄)
      = iprop((semVal (thr d L, .dma cc0_scoped0.sem) 0 ∗ semVal (thr d L, .dma cc0_scratch5.sem) 0 ∗ semVal (thr d L, .dma cc0_scratch6.sem) 0
            ∗ semVal (thr d L, .dma cc0_scratch7.sem) 0 ∗ semVal (thr d L, .dma cc0_scratch8.sem) 0)
          ∗ bigSep (ownCells (thr d L) \ cellsV d L) fun g => semVal g 0) := by
  unfold SparseCore.Cfg.ownSems0
  rw [SparseCore.bigSep_sdiff_split' (t := cellsV d L) fun g hg => by
    obtain ⟨s, hs, rfl⟩ := Finset.mem_map.mp hg
    refine mem_ownCells.mpr ⟨rfl, ?_⟩
    exact (show ∀ s ∈ semsV, (SemLoc.dma s : SemLoc sig).isScoped .scVector = true by decide) s hs]
  congr 1
  unfold cellsV semsV
  rw [BI.bigSep_map, SparseCore.bigSep_insert' (by decide), SparseCore.bigSep_insert' (by decide), SparseCore.bigSep_insert' (by decide),
    SparseCore.bigSep_insert' (by decide), bigSep_singleton]
  rfl

/-! ## A subcore's run -/

/-- The body at any grid point: its part of the output ends permuted, everything else as it was. -/
theorem tile_body (hp : InRange m) (hF : (K (F := F)).Facts) (O : CellTallies nD τ sig (HIx 1)) (W : Waits sig (HIx 1)) (hO : ∀ g, O g none = 0) :
    iprop(levAts (K (F := F)).L (K (F := F)).lev ∗ emp ∗ part m d L (yM m d)
        ∗ scopedBufs (thr d L) ∗ scopedSems0 (thr d L) ∗ owes (thr d L) O W)
      ⊢ wp frame (wpE (defs₀ (F := F)) 𝒱₀ (thr d L) none) Set.univ (printed (F := F) L)
          fun _ => iprop(part m d L (yEnd m d) ∗ scopedBufs (thr d L) ∗ scopedSems0 (thr d L)
            ∗ ∃ W', ⌜∀ p ∈ W', p ∈ W ∨ p.2 = none ∨ p.2 = some (0 : Fin 1)⌝ ∗ owes (thr d L) O W') := by
  rw [(K (F := F)).scopedBufs_V hF d (cV L) (jV L), SparseCore.Cfg.scopedSems0_V (Val := Elt F) d (cV L) (jV L), ownSems0_V, ownBufs_V]
  unfold part
  iintro ⟨#Hlv, -, ⟨Hx, Hy, Hp⟩, ⟨⟨Hb, Hi0, Hi1, Ho0, Ho1⟩, Hbufs⟩, ⟨⟨Hv, Hsi0, Hsi1, Hso0, Hso1⟩, Hsems⟩, HO⟩
  ihave Hmw := (show levAts (K (F := F)).L (K (F := F)).lev ⊢ Transfers.MayWaits (thr d L) (none : HIx 1) O from
    (K (F := F)).mayWaits_none (thr := thr d L) hO) $$ Hlv
  iapply (wp_body d L (xM m d) (yM m d) (pM m d) O W (tileShare (L 0) (L 1)) (hp d)) $$ [Hx Hy Hp Hb Hi0 Hi1 Ho0 Ho1 Hv Hsi0 Hsi1 Hso0 Hso1 Hmw HO]
  · unfold idle ow
    isplitl [Hp Hb Hv]
    · isplitl [Hp]; · iexact Hp
      isplitl [Hb]; · iapply (held_whole d L cc0_scratch0).2 $$ Hb
      iexact Hv
    isplitl [Hi0 Hsi0 Ho0 Hso0]
    · isplitl [Hi0 Hsi0]
      · isplitl [Hi0]; · iapply (held_whole d L cc0_scratch1).2 $$ Hi0
        iexact Hsi0
      · isplitl [Ho0]; · iapply (held_whole d L cc0_scratch3).2 $$ Ho0
        iexact Hso0
    isplitl [Hi1 Hsi1 Ho1 Hso1]
    · isplitl [Hi1 Hsi1]
      · isplitl [Hi1]; · iapply (held_whole d L cc0_scratch2).2 $$ Hi1
        iexact Hsi1
      · isplitl [Ho1]; · iapply (held_whole d L cc0_scratch4).2 $$ Ho1
        iexact Hso1
    isplitl [Hx]; · iexact Hx
    isplitl [Hy]; · iexact Hy
    isplitl [Hmw]; · iexact Hmw
    iexists W; isplitr
    · ipureintro; exact fun p hp => .inl hp
    · iexact HO
  unfold idle ow
  iintro ⟨⟨Hp, Hb, Hv⟩, ⟨⟨Hi0, Hsi0⟩, ⟨Ho0, Hso0⟩⟩, ⟨⟨Hi1, Hsi1⟩, ⟨Ho1, Hso1⟩⟩, Hx, Hy, -, %W', %hW', HO⟩
  isplitl [Hx Hy Hp]
  · isplitl [Hx]; · iexact Hx
    isplitl [Hy]; · iexact Hy
    iexact Hp
  isplitl [Hb Hi0 Hi1 Ho0 Ho1 Hbufs]
  · isplitl [Hb Hi0 Hi1 Ho0 Ho1]
    · isplitl [Hb]; · iapply (held_whole d L cc0_scratch0).1 $$ Hb
      isplitl [Hi0]; · iapply (held_whole d L cc0_scratch1).1 $$ Hi0
      isplitl [Hi1]; · iapply (held_whole d L cc0_scratch2).1 $$ Hi1
      isplitl [Ho0]; · iapply (held_whole d L cc0_scratch3).1 $$ Ho0
      iapply (held_whole d L cc0_scratch4).1 $$ Ho1
    · iexact Hbufs
  isplitl [Hv Hsi0 Hsi1 Hso0 Hso1 Hsems]
  · isplitl [Hv Hsi0 Hsi1 Hso0 Hso1]
    · isplitl [Hv]; · iexact Hv
      isplitl [Hsi0]; · iexact Hsi0
      isplitl [Hsi1]; · iexact Hsi1
      isplitl [Hso0] <;> iassumption
    · iexact Hsems
  iexists W'; isplitr
  · ipureintro
    exact fun p hp => (hW' p hp).imp_right Or.inl
  · iexact HO

theorem defs₀_vector (c : Fin τ.nSC) (s : Fin τ.nSub) :
    defs₀ (F := F) (.scVector c s) 0 () = SparseCore.onTile hcore0 hsub0 (fun c s => printed (coordsV c s)) ⟨⟩ c s := rfl

/-- The launch theorem's obligation for the vector subcores. -/
theorem tileObl (hp : InRange m) (hF : (K (F := F)).Facts) : (K (F := F)).TileObl (D (F := F)) 𝒱 (P m) v₀ 0 := by
  intro d c i O W hO _ _
  simp only [show (P m).ox = fun _ _ => 0 from rfl, add_zero]
  have hci : ((K (F := F)).core 0 c).val < grid0.bound 0 ∧ ((K (F := F)).sub 0 i).val < grid0.bound 1 := ⟨c.isLt, i.isLt⟩
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  rw [defs₀_vector]; simp only [SparseCore.onTile, hci, and_self, ↓reduceDIte]
  exact tile_body m d (coordsV ⟨_, hci.1⟩ ⟨_, hci.2⟩) hp hF O W hO

/-! ## A SparseCore's part, among its subcores -/

/-- A SparseCore's part is its subcores' parts and what is left of its share of the permutation. -/
theorem corePart_eq (c : Fin 2) (Y : S65536x256.Idx → Elt F .f32) :
    corePart m d c Y ⊣⊢ iprop((pLoc d ↦{Transfers.shareDrop (coreShare c) 16} m (pLoc d)) ∗ bigSep Finset.univ fun s : Fin 16 => part m d (coordsV c s) Y) := by
  have hpp : ∀ s : Fin 16, (pPart d (coordsV c s) (tileShare (coordsV c s 0) (coordsV c s 1)) (pM m d) : sProp 𝕄) = (pLoc d ↦{tileShare c s} m (pLoc d)) := fun s => by
    unfold pPart
    simp only [Memref.view_whole, View.set_whole]
    rfl
  have hpart : (bigSep Finset.univ fun s : Fin 16 => part m d (coordsV c s) Y)
      = iprop((bigSep Finset.univ fun s : Fin 16 => from' (xPart d (coordsV c s) (xM m d)) 0)
        ∗ (bigSep Finset.univ fun s : Fin 16 => from' (yPart d (coordsV c s) Y) 0)
        ∗ bigSep Finset.univ fun s : Fin 16 => (pLoc d ↦{tileShare c s} m (pLoc d))) := by
    unfold part
    rw [bigSep_sep', bigSep_sep', bigSep_congr fun s _ => hpp s]
  rw [hpart]
  unfold corePart
  constructor
  · iintro ⟨Hx, Hy, Hp⟩
    ihave Hp' := (Transfers.pointsTo_toks_split (coreShare c) 16) $$ Hp
    icases Hp' with ⟨Hr, Hp⟩
    isplitl [Hr]; · iexact Hr
    isplitl [Hx]; · iexact Hx
    isplitl [Hy] <;> iassumption
  · iintro ⟨Hr, Hx, Hy, Hp⟩
    isplitl [Hx]; · iexact Hx
    isplitl [Hy]; · iexact Hy
    iapply (Transfers.pointsTo_toks_join (coreShare c) 16)
    isplitl [Hr] <;> iassumption

theorem bigSep_tasks (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)

theorem vecSplit : (K (F := F)).VecSplit' (P m) 0 := by
  intro d c
  show corePart m d (Fin.cast nCore_zero c) (yM m d) ⊢ |={Set.univ}=> iprop(
      (bigSep Finset.univ fun i : Fin ((K (F := F)).nSub 0) => part m d (coordsV (Fin.cast nCore_zero c) (Fin.cast nSub_zero i)) (yM m d))
      ∗ ((bigSep Finset.univ fun i : Fin ((K (F := F)).nSub 0) => part m d (coordsV (Fin.cast nCore_zero c) (Fin.cast nSub_zero i)) (yEnd m d))
          -∗ corePart m d (Fin.cast nCore_zero c) (yEnd m d)))
  rw [bigSep_tasks (F := F) (fun i => part m d (coordsV (Fin.cast nCore_zero c) i) (yM m d)),
    bigSep_tasks (F := F) (fun i => part m d (coordsV (Fin.cast nCore_zero c) i) (yEnd m d))]
  iintro H
  ihave H' := (corePart_eq m d (Fin.cast nCore_zero c) (yM m d)).1 $$ H
  icases H' with ⟨Hr, H⟩
  imodintro
  isplitl [H]; · iexact H
  iintro H
  iapply (corePart_eq m d (Fin.cast nCore_zero c) (yEnd m d)).2
  isplitl [Hr] <;> iassumption

end Cert.Proof.Perm
-- ==== Proof.Launch.lean ====
/-
  The whole program: `@main` hands the arrays to the two SparseCores, takes the output back permuted, and fills the second result with
  zeros. One run of it, over any float values, is what every claim about the kernel reads.
-/
module

public import proofs.«01_k».proof.Proof.Tile

@[expose] public section

noncomputable section

namespace Cert.Proof.Perm

open Cert.KernelIdeal Cert.KernelIdeal.Gen

open Idealize.ShloMosaic
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (wp_hlo_within)
open Idealize.ShloMosaic.Tactic

variable {F : FTy → Type} [FloatOps F]

local notation "𝕄" => MT nD τ sig (HIx 1) (Elt F) ℕ UU ℕ

/-! ## The arrays among the SparseCores -/

/-- A subcore's rows, and a SparseCore's. -/
def tileRows (L : grid0.Coords) : Finset S65536x256.Idx := Finset.univ.filter fun i => (i 0 : ℕ) / 2048 = wid L
def coreRows (c : Fin 2) : Finset S65536x256.Idx := Finset.univ.filter fun i => (i 0 : ℕ) / 2048 % 2 = c

theorem mem_tileRows {L : grid0.Coords} {i : S65536x256.Idx} : i ∈ tileRows L ↔ (i 0 : ℕ) / 2048 = wid L := by simp [tileRows]
theorem mem_coreRows {c : Fin 2} {i : S65536x256.Idx} : i ∈ coreRows c ↔ (i 0 : ℕ) / 2048 % 2 = c := by simp [coreRows]

theorem wid_coordsV (c : Fin 2) (s : Fin 16) : wid (coordsV c s) = 2 * (s : ℕ) + c := rfl

theorem tileRows_eq (L : grid0.Coords) : (Finset.Ico 0 32).biUnion (fun c => chunkSet (wid L * 32 + c)) = tileRows L := by
  ext i
  simp only [Finset.mem_biUnion, Finset.mem_Ico, mem_chunkSet, mem_tileRows]
  constructor
  · rintro ⟨c, hc, h⟩; omega
  · intro h; exact ⟨(i 0 : ℕ) / 64 % 32, by omega, by omega⟩

theorem coreRows_eq (c : Fin 2) : (Finset.univ : Finset (Fin 16)).biUnion (fun s => tileRows (coordsV c s)) = coreRows c := by
  ext i
  have hi : (i 0 : ℕ) < 65536 := (i 0).isLt
  simp only [Finset.mem_biUnion, Finset.mem_univ, true_and, mem_tileRows, mem_coreRows, wid_coordsV]
  constructor
  · rintro ⟨s, h⟩; omega
  · intro h; exact ⟨⟨(i 0 : ℕ) / 2048 / 2, by omega⟩, by show _ = 2 * ((i 0 : ℕ) / 2048 / 2) + (c : ℕ); omega⟩

theorem allRows_eq : (Finset.univ : Finset (Fin 2)).biUnion coreRows = Finset.univ := by
  ext i
  simp only [Finset.mem_biUnion, Finset.mem_univ, true_and, mem_coreRows, iff_true]
  exact ⟨⟨(i 0 : ℕ) / 2048 % 2, Nat.mod_lt _ (by decide)⟩, rfl⟩

theorem chunks_apart (L : grid0.Coords) : ∀ c ∈ Finset.Ico 0 32, ∀ c' ∈ Finset.Ico 0 32, c ≠ c' →
    Disjoint (chunkSet (wid L * 32 + c)) (chunkSet (wid L * 32 + c')) :=
  fun c _ c' _ h => chunkSet_disjoint fun e => h (by omega)

theorem tiles_apart (c : Fin 2) : ∀ s ∈ (Finset.univ : Finset (Fin 16)), ∀ s' ∈ (Finset.univ : Finset (Fin 16)), s ≠ s' →
    Disjoint (tileRows (coordsV c s)) (tileRows (coordsV c s')) := by
  refine fun s _ s' _ h => Finset.disjoint_left.mpr fun i hi hi' => h (Fin.ext ?_)
  rw [mem_tileRows, wid_coordsV] at hi hi'
  omega

theorem cores_apart : ∀ c ∈ (Finset.univ : Finset (Fin 2)), ∀ c' ∈ (Finset.univ : Finset (Fin 2)), c ≠ c' → Disjoint (coreRows c) (coreRows c') := by
  refine fun c _ c' _ h => Finset.disjoint_left.mpr fun i hi hi' => h (Fin.ext ?_)
  rw [mem_coreRows] at hi hi'
  omega

/-- The input whole is its chunks, SparseCore by SparseCore and subcore by subcore; -/
theorem xWhole (d : Dev nD) (X : S65536x256.Idx → Elt F .f32) :
    (bigSep Finset.univ fun c : Fin 2 => bigSep Finset.univ fun s : Fin 16 => from' (xPart d (coordsV c s) X) 0)
      = (xLoc d ↦{fullShare} X : sProp 𝕄) := by
  have h : ∀ L, from' (xPart d L X) 0 = (xLoc d ↦[tileRows L]{fullShare} X : sProp 𝕄) := fun L => by
    rw [← tileRows_eq]; exact (pointsTo_biUnion (ℓ := xLoc d) _ _ (chunks_apart L)).symm
  rw [bigSep_congr fun c _ => (bigSep_congr fun s _ => h (coordsV c s)).trans
    ((pointsTo_biUnion (ℓ := xLoc d) _ _ (tiles_apart c)).symm.trans (by rw [coreRows_eq])),
    ← pointsTo_biUnion (ℓ := xLoc d) _ coreRows cores_apart, allRows_eq]

/-- and so the output. -/
theorem yWhole (d : Dev nD) (Y : S65536x256.Idx → Elt F .f32) :
    (bigSep Finset.univ fun c : Fin 2 => bigSep Finset.univ fun s : Fin 16 => from' (yPart d (coordsV c s) Y) 0)
      = (yLoc d ↦{fullShare} Y : sProp 𝕄) := by
  have h : ∀ L, from' (yPart d L Y) 0 = (yLoc d ↦[tileRows L]{fullShare} Y : sProp 𝕄) := fun L => by
    rw [← tileRows_eq]; exact (pointsTo_biUnion (ℓ := yLoc d) _ _ (chunks_apart L)).symm
  rw [bigSep_congr fun c _ => (bigSep_congr fun s _ => h (coordsV c s)).trans
    ((pointsTo_biUnion (ℓ := yLoc d) _ _ (tiles_apart c)).symm.trans (by rw [coreRows_eq])),
    ← pointsTo_biUnion (ℓ := yLoc d) _ coreRows cores_apart, allRows_eq]

variable (m : (ℓ : Loc nD τ sig) → Buf (Elt F) ℓ) (ρ : Dev nD → PrngReg)

/-- The SparseCores' parts together are the two arrays and the SparseCores' shares of the permutation. -/
theorem corePart_all (d : Dev nD) (Y : S65536x256.Idx → Elt F .f32) :
    (bigSep Finset.univ fun c : Fin 2 => corePart m d c Y)
      = iprop((xLoc d ↦{fullShare} m (xLoc d)) ∗ (yLoc d ↦{fullShare} Y)
          ∗ bigSep Finset.univ fun c : Fin 2 => pLoc d ↦{Transfers.shareTok fullShare 2 c} m (pLoc d)) := by
  unfold corePart
  rw [bigSep_sep', bigSep_sep', xWhole, yWhole]; rfl

theorem st0_eq (d : Dev nD) : (bigSep Finset.univ fun c : Fin ((K (F := F)).nCore 0) => (P m).st 0 d c)
    = iprop((xLoc d ↦{fullShare} m (xLoc d)) ∗ (yLoc d ↦{fullShare} yM m d)
        ∗ bigSep Finset.univ fun c : Fin 2 => pLoc d ↦{Transfers.shareTok fullShare 2 c} m (pLoc d)) := corePart_all m d (yM m d)
theorem dn0_eq (d : Dev nD) : (bigSep Finset.univ fun c : Fin ((K (F := F)).nCore 0) => (P m).dn 0 d c)
    = iprop((xLoc d ↦{fullShare} m (xLoc d)) ∗ (yLoc d ↦{fullShare} yEnd m d)
        ∗ bigSep Finset.univ fun c : Fin 2 => pLoc d ↦{Transfers.shareTok fullShare 2 c} m (pLoc d)) := corePart_all m d (yEnd m d)

/-! ## The launch -/

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

/-- The launch's resources: the handshakes' rounds, and no counter yet. -/
def u₀ : UU := (initOf (K (F := F)).hsCells (K (F := F)).hsToks, 1)

theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair (initOf (K (F := F)).hsCells (K (F := F)).hsToks) (1 : Counters)) $$ Hu
  icases H with ⟨HH, -⟩
  imodintro
  isplitl [HH]; · iexact HH
  isplitr; · rw [bigSep_emp']; iempintro
  rw [show (bigSep Finset.univ fun thr : Thread nD τ => bigSep Finset.univ fun q : Fin 1 => (P (F := F) m).x q thr) = bigSep Finset.univ fun _ => iprop(emp) from
    bigSep_congr fun _ _ => bigSep_univ_of_subsingleton (0 : Fin 1), bigSep_emp']
  iempintro

/-! ## `@main` -/

abbrev rLoc (d : Dev nD) : Loc nD τ sig := (SparseCore.T d).loc main_v1

abbrev x' : DevRef τ sig := Proc.devRef .tc (main_arg0 : Ref sig .tc)
abbrev p' : DevRef τ sig := Proc.devRef .tc (main_arg1 : Ref sig .tc)
abbrev y' : DevRef τ sig := Proc.devRef .tc (main_v0 : Ref sig .tc)
abbrev c' : DevRef τ sig := Proc.devRef .tc (main_cst : Ref sig .tc)
abbrev r' : DevRef τ sig := Proc.devRef .tc (main_v1 : Ref sig .tc)

/-- The second result: zero at every row. -/
def zeros : S65536.Idx → Elt F .f32 := broadcastInDim S65536 ![] bcast_S_S65536 (constant S_ .f32 0x00000000#32)

/-- The two operations after the call. -/
abbrev opZ : HloOp τ sig (Elt F) := StableHlo.nullary main_cst (constant S_ .f32 0x00000000#32)
abbrev opB : HloOp τ sig (Elt F) :=
  StableHlo.unary main_cst main_v1 (broadcastInDim S65536 ![] bcast_S_S65536 : (⟨S_, .f32⟩ : BufTy).Contents (Elt F) → (⟨S65536, .f32⟩ : BufTy).Contents (Elt F))

/-- The TensorCore's arrays, and the two that those operations touch. -/
abbrev S5 : Finset (DevRef τ sig) := {x', p', y', c', r'}
abbrev S2 : Finset (DevRef τ sig) := {c', r'}

theorem held_S2 (d : Dev nD) (V : Valuation τ sig (Elt F)) :
    (StableHlo.held (SparseCore.T d) S2 V : sProp 𝕄) = iprop(((SparseCore.T d).loc main_cst ↦{fullShare} V c') ∗ (rLoc d ↦{fullShare} V r')) := by
  unfold StableHlo.held S2
  rw [SparseCore.bigSep_insert' (by decide), bigSep_singleton]

theorem unscopedBufs_eq (d : Dev nD) (V : (b : Ref sig .tc) → Buf (Elt F) ((d.tc : Thread nD τ).loc b)) :
    (unscopedBufs d V : sProp 𝕄)
      = iprop((xLoc d ↦{fullShare} V main_arg0) ∗ (pLoc d ↦{fullShare} V main_arg1) ∗ (yLoc d ↦{fullShare} V main_v0)
          ∗ ((SparseCore.T d).loc main_cst ↦{fullShare} V main_cst) ∗ (rLoc d ↦{fullShare} V main_v1)) := by
  unfold unscopedBufs
  rw [show (Finset.univ.filter fun b : Ref sig .tc => ¬ b.isScoped) = {main_arg0, main_arg1, main_v0, main_cst, main_v1} by decide,
    SparseCore.bigSep_insert' (by decide), SparseCore.bigSep_insert' (by decide), SparseCore.bigSep_insert' (by decide),
    SparseCore.bigSep_insert' (by decide), bigSep_singleton]

/-- The launch valuation. -/
def V0 (d : Dev nD) : Valuation τ sig (Elt F) := fun b => m (d, b)

theorem end_r (V : Valuation τ sig (Elt F)) : (opB (F := F)).result ((opZ (F := F)).result V) r' = zeros (F := F) := by
  rw [show (opB (F := F)).result ((opZ (F := F)).result V) r' = _ from StableHlo.unary_result _ _ _ _ _ _]
  exact congrArg (broadcastInDim S65536 ![] bcast_S_S65536 : (⟨S_, .f32⟩ : BufTy).Contents (Elt F) → (⟨S65536, .f32⟩ : BufTy).Contents (Elt F))
    (StableHlo.nullary_result _ _ _ _)

/-- What `@main` leaves: the arguments as they were, the first result permuted, the second zero. -/
def FIN (d : Dev nD) : sProp 𝕄 :=
  iprop((xLoc d ↦{fullShare} m (xLoc d)) ∗ (pLoc d ↦{fullShare} m (pLoc d)) ∗ (yLoc d ↦{fullShare} yEnd m d) ∗ rLoc d ↦{fullShare} zeros (F := F))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscopedBufs_eq]
  simp only [main, wp_bind, wp_pure]
  iintro ⟨#Hctx, Hst, ⟨Hb, ⟨Hx, Hp, Hy, Hc, Hr⟩, Hts, -⟩, -⟩
  ihave Hp' := (Transfers.pointsTo_toks_split fullShare 2) $$ Hp
  icases Hp' with ⟨Hpr, Hp⟩
  iapply ((K (F := F)).wp_run (D (F := F)) 𝒱 (EH := EH) (P := P m) κ d 0) $$ [Hst Hx Hy Hp Hpr Hb Hc Hr Hts]
  isplitr; · iexact Hctx
  isplitl [Hst]; · iexact Hst
  isplitl [Hx Hy Hp]
  · rw [st0_eq]
    isplitl [Hx]; · iexact Hx
    isplitl [Hy]; · iexact Hy
    iexact Hp
  iintro ⟨Hst, Hdn⟩
  ihave Hdn' := (Entails.of_eq (dn0_eq m d)) $$ Hdn
  icases Hdn' with ⟨Hx, Hy, Hp⟩
  iapply (wp_hlo_within 𝒱 (SparseCore.T d) none Set.univ (op := opZ) (S := S2) (show ({c'} : Finset (DevRef τ sig)) ⊆ S2 by decide) (V := V0 m d)) $$ [Hb Hc Hr]
  · isplitl [Hb]; · iexact Hb
    rw [held_S2]
    isplitl [Hc]; · iexact Hc
    iexact Hr
  iintro ⟨Hb, Hheld⟩
  rw [wp_ret]; imodintro
  iapply (wp_hlo_within 𝒱 (SparseCore.T d) none Set.univ (op := opB) (S := S2) (show ({c', r'} : Finset (DevRef τ sig)) ⊆ S2 by decide)) $$ [Hb Hheld]
  · isplitl [Hb]; · iexact Hb
    iexact Hheld
  iintro ⟨Hb, Hheld⟩
  ihave Hh := (Entails.of_eq (held_S2 (F := F) d _)) $$ Hheld
  icases Hh with ⟨-, Hr⟩
  rw [wp_ret]; imodintro; imodintro
  isplitl [Hst]; · iexact Hst
  isplitl [Hx Hp Hpr Hy Hr]
  · unfold FIN
    isplitl [Hx]; · iexact Hx
    isplitl [Hp Hpr]
    · iapply (Transfers.pointsTo_toks_join fullShare 2)
      isplitl [Hpr] <;> iassumption
    isplitl [Hy]; · iexact Hy
    rw [end_r]
    iexact Hr
  isplitl [Hb] <;> iassumption

/-! ## The final state -/

/-- What a final state holds on device `d`. -/
def fq (d : Dev nD) (s' : Phys nD τ sig (Elt F)) : Prop :=
  s'.mem.mem (xLoc d) = m (xLoc d) ∧ s'.mem.mem (pLoc d) = m (pLoc d) ∧ s'.mem.mem (yLoc d) = yEnd m d ∧ s'.mem.mem (rLoc d) = zeros (F := F)

theorem hfin (d : Dev nD) (s' : Phys nD τ sig (Elt F)) : iprop(FIN m d ∗ SI s') ⊢ (⌜fq m d s'⌝ : sProp 𝕄) := by
  have agree : ∀ (ℓ : Loc nD τ sig) (f : Buf (Elt F) ℓ), iprop((ℓ ↦{fullShare} f) ∗ SI s') ⊢ (⌜s'.mem.mem ℓ = f⌝ : sProp 𝕄) := fun ℓ f => by
    iintro ⟨H, HSI⟩
    ihave H' := (SI_pointsTo_agree (st := s') (ℓ := ℓ) (I := Finset.univ) (q := fullShare) (f := f)) $$ [HSI H]
    · isplitl [HSI] <;> iassumption
    icases H' with %h
    ipureintro; exact funext fun i => h i (Finset.mem_univ i)
  unfold FIN
  iintro ⟨⟨Hx, Hp, Hy, Hr⟩, HSI⟩
  ihave %hx := (agree _ _) $$ [Hx HSI]
  · isplitl [Hx] <;> iassumption
  ihave %hp := (agree _ _) $$ [Hp HSI]
  · isplitl [Hp] <;> iassumption
  ihave %hy := (agree _ _) $$ [Hy HSI]
  · isplitl [Hy] <;> iassumption
  ihave %hr := (agree _ _) $$ [Hr HSI]
  · isplitl [Hr] <;> iassumption
  ipureintro; exact ⟨hx, hp, hy, hr⟩

/-- The program's end, on every device and for every semaphore. -/
def QC : PUnit × MemSt nD τ sig (Elt F) → Prop := fun r =>
  (∀ d : Dev nD, r.2.mem (xLoc d) = m (xLoc d) ∧ r.2.mem (pLoc d) = m (pLoc d) ∧ r.2.mem (yLoc d) = yEnd m d ∧ r.2.mem (rLoc d) = zeros (F := F))
    ∧ r.2.sem = fun _ => 0

/-- Every run of the program, the permutation in range, ends so. -/
theorem run_main [∀ e, Nonempty (Elt F e)] (hp : InRange m) :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) facts v₀
    (fun q hq => match q with | 0 => nomatch hq)
    (fun q _ => match q with | 0 => tileObl m hp facts)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.Proof.Perm
-- ==== Proof.Reference.lean ====
/-
  What the reference computes: its first result is the argument with its columns permuted, whenever every word of the permutation names
  a column.
-/
module

public import proofs.«01_k».proof.Proof.Chunks
public import proofs.«01_k».proof.Proof.Gen.ReferenceIdeal

@[expose] public section

noncomputable section

namespace Cert.Proof.Perm

open Idealize.ShloMosaic
open Cert.ReferenceIdeal Cert.ReferenceIdeal.Gen

/-- The words the reference gathers at: a negative word has 256 added to it, any other is taken as it is. -/
def wrapped (p : IVec S256 32) : IVec S256 32 :=
  select (cmpi .slt p (broadcastInDim S256 ![] bcast_S_S256 (constantI S_ 32 0#32)))
    (addi p (broadcastInDim S256 ![] bcast_S_S256 (constantI S_ 32 256#32))) p

/-- Where word number `c` lies in the gather's array of starts, which has one column. -/
def ixS (c : Fin 256) : S256x1.Idx := fun | 0 => c | 1 => (0 : Fin 1) | ⟨_ + 2, h⟩ => absurd h (Nat.not_lt.2 (Nat.le_add_left _ _))

/-- A word below 256 is not negative. -/
theorem toInt_of_lt {w : BitVec 32} (h : w.toNat < 256) : w.toInt = w.toNat := by
  rw [BitVec.toInt_eq_toNat_cond]; omega

/-- A word that names a column is gathered at as it is. -/
theorem wrapped_of_lt {p : IVec S256 32} (hp : ∀ c, (p c).toNat < 256) : wrapped p = p := by
  funext c
  have h := toInt_of_lt (hp c)
  refine if_neg (fun e => ?_)
  have e' := IntOp.cmpi_slt.1 e
  rw [h] at e'
  exact absurd e' (by show ¬ ((p c).toNat : Int) < 0; omega)

/-- The gather's array of starts: the words in one column. -/
abbrev starts (p : IVec S256 32) : IVec S256x1 32 := broadcastInDim S256x1 ![0] bcast_S256_S256x1_0 p

/-- Start number `c` is word number `c`. -/
theorem starts_apply (p : IVec S256 32) (c : Fin 256) : starts p (ixS c) = p (ix1 c) :=
  congrArg p (funext fun | ⟨0, _⟩ => rfl)

/-- How the reference's gather reads: a whole column for each start. -/
abbrev gd := gather_S65536x256_S256x1_S65536x256_0_1_n_n_1_1_655361

/-- The gather takes whole columns: entry (`r`, `c`) of its result is entry `r` of the column its word number `c` names, read signed
    and held between 0 and 255. -/
theorem gather_col {α : Type} (X : S65536x256.Idx → α) (idx : IVec S256x1 32) (i : S65536x256.Idx) :
    Host.gather gd X idx i = X (ixA (i 0) ⟨min (idx (ixS (i 1))).toInt.toNat 255, by omega⟩) := by
  refine congrArg X (funext (Fin.forall_fin_two.mpr ⟨Fin.ext ?_, Fin.ext ?_⟩))
  · show gd.start i idx 0 + gd.batchCoord i 0 + gd.offCoord i 0 = (i 0 : ℕ)
    rw [GatherDims.batchCoord_eq_zero _ _ _ List.not_mem_nil, show gd.start i idx 0 = 0 from rfl, show gd.offCoord i 0 = (i 0 : ℕ) from rfl]
    omega
  · show gd.start i idx 1 + gd.batchCoord i 1 + gd.offCoord i 1 = min (idx (ixS (i 1))).toInt.toNat 255
    rw [GatherDims.batchCoord_eq_zero _ _ _ List.not_mem_nil, show gd.offCoord i 1 = 0 from rfl]
    have hs : gd.siIdx i ⟨0, Nat.one_pos⟩ = ixS (i 1) := funext (Fin.forall_fin_two.mpr ⟨rfl, rfl⟩)
    rw [← hs]
    rfl

/-- The reference's first result is its argument with the columns permuted. -/
theorem reference_eq {α : Type} (X : S65536x256.Idx → α) (p : IVec S256 32) (hp : ∀ c, (p c).toNat < 256) :
    Host.gather gd X (starts (wrapped p)) = permA p X := by
  funext i
  have h := hp (ix1 (i 1))
  have e : (starts (wrapped p) (ixS (i 1))).toInt = (p (ix1 (i 1))).toNat := by
    rw [wrapped_of_lt hp]
    exact (congrArg BitVec.toInt (starts_apply p (i 1))).trans (toInt_of_lt h)
  rw [gather_col]
  refine congrArg (fun k => X (ixA (i 0) k)) (Fin.ext ?_)
  show min (starts (wrapped p) (ixS (i 1))).toInt.toNat 255 = (p (ix1 (i 1))).toNat % 256
  omega

end Cert.Proof.Perm

end
-- ==== Proof.lean ====
/-
  Every claim, from one run. The kernel's run (Proof/Launch.lean) is over any float values and states the whole final state: the
  arguments unchanged, the first result permuted, the second zero, every semaphore at zero. Its frames drop the values; the equation
  with the reference keeps them.
-/
module

public import proofs.«01_k».proof.Defs
public import proofs.«01_k».proof.Proof.Gen.Kernel
public import proofs.«01_k».proof.Proof.Gen.Kernel.Skeleton
public import proofs.«01_k».proof.Proof.Gen.KernelIdeal
public import proofs.«01_k».proof.Proof.Gen.KernelIdeal.Skeleton
public import proofs.«01_k».proof.Proof.Gen.ReferenceIdeal
public import proofs.«01_k».proof.Proof.Gen.ReferenceIdeal.Run
public import proofs.«01_k».proof.Proof.Gen.Pre_in_range
public import proofs.«01_k».proof.Proof.InRange
public import proofs.«01_k».proof.Proof.Launch
public import proofs.«01_k».proof.Proof.Reference
public import Idealize.ShloMosaic.Lib.Quiescent

@[expose] public section

noncomputable section

namespace Cert.Proof

open Idealize.ShloMosaic Idealize.SL.Sem
open Cert.Proof.Perm

/-- The precondition of the ideal kernel puts every word of its permutation in range. -/
theorem inRange_ideal {m : (ℓ : Loc Cert.KernelIdeal.nD Cert.KernelIdeal.τ Cert.KernelIdeal.sig) → Buf (Elt Ideal) ℓ}
    (h : Cert.Pre_KernelIdeal m) : InRange (F := Ideal) m :=
  fun d c => lt_of_pre _ _ (h d) c

/-- `Kernel` terminates with its arguments unchanged and every semaphore at zero. -/
theorem frame_kernel : Cert.quiescent_Kernel := fun m ρ hpre =>
  (θ_run Cert.KernelIdeal.defs _ _).mono (fun _ h => ⟨fun d => ⟨(h.1 d).1, (h.1 d).2.1⟩, h.2⟩)
    (run_main (F := Bits) m ρ fun d c => lt_of_pre _ _ (hpre d) c)

/-- `KernelIdeal` terminates with its arguments unchanged and every semaphore at zero. -/
theorem frame_kernelIdeal : Cert.quiescent_KernelIdeal := fun m ρ hpre =>
  (θ_run Cert.KernelIdeal.defs _ _).mono (fun _ h => ⟨fun d => ⟨(h.1 d).1, (h.1 d).2.1⟩, h.2⟩) (run_main (F := Ideal) m ρ (inRange_ideal hpre))

/-- The reference terminates with its arguments unchanged; it has no semaphore. -/
theorem frame_reference : Cert.quiescent_ReferenceIdeal := fun m ρ _ =>
  (θ_run Cert.ReferenceIdeal.defs _ _).mono (fun r h => ⟨fun d => (h d).2.2, sem_eq_zero_of_no_sems (by decide) r.2⟩)
    (Cert.ReferenceIdeal.Value.run (F := Ideal) m ρ)

/-- The reference's results are the kernel's, element by element: the argument with its columns permuted, and zero. -/
theorem algebraic : Cert.algebraic_KernelIdeal_ReferenceIdeal := by
  intro m ρ m' ρ' hpre hagree
  have hp := inRange_ideal hpre
  refine ⟨fun d => yEnd m d, fun _ => zeros (F := Ideal), ?_, ?_⟩
  · exact (θ_run Cert.KernelIdeal.defs _ _).mono
      (fun _ h d => ⟨(h.1 d).2.2.1, (h.1 d).2.2.2, (h.1 d).1, (h.1 d).2.1⟩) (run_main (F := Ideal) m ρ hp)
  · refine (θ_run Cert.ReferenceIdeal.defs _ _).mono (fun _ h d => ⟨(h d).1.trans ?_, (h d).2.1, (h d).2.2⟩)
      (Cert.ReferenceIdeal.Value.run (F := Ideal) m' ρ')
    rw [(hagree d).1, (hagree d).2]
    exact reference_eq (xM m d) (pM m d) (hp d)

/-- All the claims together. -/
theorem claim : Cert.Claim :=
  ⟨Cert.Kernel.Gen.facts, Cert.KernelIdeal.Gen.facts, Cert.ReferenceIdeal.Gen.facts, Cert.Pre_in_range.Gen.facts,
    frame_kernel, frame_kernelIdeal, frame_reference, fun m ρ _ => frame_reference m ρ trivial, trivial, algebraic⟩

end Cert.Proof

end
